-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admitted [hPre_admitted : Cert.Pre_admitted.Facts] (m : (ℓ : Loc Cert.KernelIdeal.nD Cert.KernelIdeal.τ Cert.KernelIdeal.sig) → Buf (Elt Ideal) ℓ) : Prop :=
  ∀ c : Dev Cert.KernelIdeal.nD,
    (Cert.Pre_admitted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admitted [hPre_admitted : Cert.Pre_admitted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admitted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_admitted [hKernelIdeal : Cert.KernelIdeal.Facts] [hPre_admitted : Cert.Pre_admitted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admitted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_admitted [hReferenceIdeal : Cert.ReferenceIdeal.Facts] [hPre_admitted : Cert.Pre_admitted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admitted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_admitted [hKernelIdeal : Cert.KernelIdeal.Facts] [hReferenceIdeal : Cert.ReferenceIdeal.Facts] [hPre_admitted : Cert.Pre_admitted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admitted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_admitted : Cert.Pre_admitted.Facts),
    quiescent_Kernel (hKernel := hKernel)
    ∧ quiescent_KernelIdeal (hKernelIdeal := hKernelIdeal)
    ∧ quiescent_KernelIdeal_pre_admitted (hKernelIdeal := hKernelIdeal) (hPre_admitted := hPre_admitted)
    ∧ quiescent_ReferenceIdeal (hReferenceIdeal := hReferenceIdeal)
    ∧ quiescent_ReferenceIdeal_pre_admitted (hReferenceIdeal := hReferenceIdeal) (hPre_admitted := hPre_admitted)
    ∧ preserves_Kernel_KernelIdeal
    ∧ algebraic_KernelIdeal_ReferenceIdeal_pre_admitted (hKernelIdeal := hKernelIdeal) (hReferenceIdeal := hReferenceIdeal) (hPre_admitted := hPre_admitted)
-- ==== Pre_admitted.lean ====
abbrev S1024x64 : Shape := ⟨2, ![1024, 64]⟩
abbrev S20000x64 : Shape := ⟨2, ![20000, 64]⟩
abbrev S20000x32 : Shape := ⟨2, ![20000, 32]⟩
abbrev S100x32 : Shape := ⟨2, ![100, 32]⟩
abbrev S20000 : Shape := ⟨1, ![20000]⟩
abbrev S100x100 : Shape := ⟨2, ![100, 100]⟩
abbrev S64x32 : Shape := ⟨2, ![64, 32]⟩
abbrev S32 : Shape := ⟨1, ![32]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S20000 : S_.BroadcastsInDim S20000 (![] : Fin 0 → Fin S20000.rank)
  reducesTo_S20000_S_d0 : S20000.ReducesTo [0] S_

variable [Facts]

def fn_part1 {F : FTy → Type} [FloatOps F] (main_arg7 : IVec S20000 32) (main_arg8 : IVec S20000 32) (main_v13 : IVec S_ 1) (main_v16 : IVec S20000x64 1) : IVec S_ 1 :=
  let main_c_5 : IVec S_ 1 := constantI S_ 1 1#1
  let main_v17 : IVec S_ 1 := (fun x v => Host.reduce IntOp.andi x v reducesTo_S20000x64_S_d0_1 h_S_) main_v16 main_c_5
  let main_v18 : IVec S_ 1 := andi main_v13 main_v17
  let main_c_6 : IVec S_ 32 := constantI S_ 32 0#32
  let main_v19 : IVec S20000 32 := broadcastInDim S20000 ![] bcast_S_S20000 main_c_6
  let main_v20 : IVec S20000 1 := cmpi .sge main_arg7 main_v19
  let main_c_7 : IVec S_ 32 := constantI S_ 32 100#32
  let main_v21 : IVec S20000 32 := broadcastInDim S20000 ![] bcast_S_S20000 main_c_7
  let main_v22 : IVec S20000 1 := cmpi .slt main_arg7 main_v21
  let main_v23 : IVec S20000 1 := andi main_v20 main_v22
  let main_c_8 : IVec S_ 1 := constantI S_ 1 1#1
  let main_v24 : IVec S_ 1 := (fun x v => Host.reduce IntOp.andi x v reducesTo_S20000_S_d0 h_S_) main_v23 main_c_8
  let main_v25 : IVec S_ 1 := andi main_v18 main_v24
  let main_c_9 : IVec S_ 32 := constantI S_ 32 0#32
  let main_v26 : IVec S20000 32 := broadcastInDim S20000 ![] bcast_S_S20000 main_c_9
  let main_v27 : IVec S20000 1 := cmpi .sge main_arg8 main_v26
  let main_c_10 : IVec S_ 32 := constantI S_ 32 100#32
  let main_v28 : IVec S20000 32 := broadcastInDim S20000 ![] bcast_S_S20000 main_c_10
  let main_v29 : IVec S20000 1 := cmpi .slt main_arg8 main_v28
  let main_v30 : IVec S20000 1 := andi main_v27 main_v29
  let main_c_11 : IVec S_ 1 := constantI S_ 1 1#1
  let main_v31 : IVec S_ 1 := (fun x v => Host.reduce IntOp.andi x v reducesTo_S20000_S_d0 h_S_) main_v30 main_c_11
  let main_v32 : IVec S_ 1 := andi main_v25 main_v31
  main_v32

def fn {F : FTy → Type} [FloatOps F] (main_arg0 : FVec F S1024x64 .f32) (main_arg1 : FVec F S20000x64 .f32) (main_arg2 : FVec F S20000x32 .f32) (main_arg3 : FVec F S20000x64 .f32) (main_arg4 : FVec F S20000x64 .f32) (main_arg5 : FVec F S100x32 .f32) (main_arg6 : FVec F S100x32 .f32) (main_arg7 : IVec S20000 32) (main_arg8 : IVec S20000 32) (main_arg9 : FVec F S100x100 .f32) (main_arg10 : FVec F S100x100 .f32) (main_arg11 : FVec F S64x32 .f32) (main_arg12 : FVec F S32 .f32) (main_arg13 : FVec F S64x32 .f32) (main_arg14 : FVec F S32 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S20000x64 .f32 := Host.absf main_arg1
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S20000x64 .f32 := Host.absf main_arg3
  let main_cst_2 : FVec F S_ .f32 := constant S_ .f32 0x7F800000#32
  let main_v10 : FVec F S20000x64 .f32 := broadcastInDim S20000x64 ![] bcast_S_S20000x64 main_cst_2
  let main_v11 : IVec S20000x64 1 := cmpf .olt main_v9 main_v10
  let main_c_3 : IVec S_ 1 := constantI S_ 1 1#1
  let main_v12 : IVec S_ 1 := (fun x v => Host.reduce IntOp.andi x v reducesTo_S20000x64_S_d0_1 h_S_) main_v11 main_c_3
  let main_v13 : IVec S_ 1 := andi main_v8 main_v12
  let main_v14 : FVec F S20000x64 .f32 := Host.absf main_arg4
  let main_cst_4 : FVec F S_ .f32 := constant S_ .f32 0x7F800000#32
  let main_v15 : FVec F S20000x64 .f32 := broadcastInDim S20000x64 ![] bcast_S_S20000x64 main_cst_4
  let main_v16 : IVec S20000x64 1 := cmpf .olt main_v14 main_v15
  fn_part1 (F := F) main_arg7 main_arg8 main_v13 main_v16
-- ==== Kernel.lean ====
abbrev S1024x64 : Shape := ⟨2, ![1024, 64]⟩
abbrev S20000x64 : Shape := ⟨2, ![20000, 64]⟩
abbrev S20000x32 : Shape := ⟨2, ![20000, 32]⟩
abbrev S100x32 : Shape := ⟨2, ![100, 32]⟩
abbrev S20000 : Shape := ⟨1, ![20000]⟩
abbrev S100x100 : Shape := ⟨2, ![100, 100]⟩
abbrev S64x32 : Shape := ⟨2, ![64, 32]⟩
abbrev S32 : Shape := ⟨1, ![32]⟩
abbrev S20000x1 : Shape := ⟨2, ![20000, 1]⟩
abbrev S32x1 : Shape := ⟨2, ![32, 1]⟩
abbrev S1024x32 : Shape := ⟨2, ![1024, 32]⟩
abbrev S2000x64 : Shape := ⟨2, ![2000, 64]⟩
abbrev S2000x32 : Shape := ⟨2, ![2000, 32]⟩
abbrev S2000x1 : Shape := ⟨2, ![2000, 1]⟩
abbrev S64x1024 : Shape := ⟨2, ![64, 1024]⟩
abbrev S129x1024 : Shape := ⟨2, ![129, 1024]⟩
abbrev S164x1024 : Shape := ⟨2, ![164, 1024]⟩
abbrev S33x1024 : Shape := ⟨2, ![33, 1024]⟩
abbrev S2000 : Shape := ⟨1, ![2000]⟩
abbrev S2000x1024 : Shape := ⟨2, ![2000, 1024]⟩
abbrev S2000x129 : Shape := ⟨2, ![2000, 129]⟩
abbrev S1x1024 : Shape := ⟨2, ![1, 1024]⟩
abbrev S100x1024 : Shape := ⟨2, ![100, 1024]⟩
abbrev S32x1024 : Shape := ⟨2, ![32, 1024]⟩
abbrev S100 : Shape := ⟨1, ![100]⟩
abbrev S100x1 : Shape := ⟨2, ![100, 1]⟩
abbrev S1024 : Shape := ⟨1, ![1024]⟩
abbrev S2000x100 : Shape := ⟨2, ![2000, 100]⟩
abbrev S2000x164 : Shape := ⟨2, ![2000, 164]⟩
abbrev S2000x33 : Shape := ⟨2, ![2000, 33]⟩

abbrev nBuf : Space → Nat
  | .hbm => 20
  | .vmem => 28
  | .smem => 0
  | _ => 0

abbrev bufTy : (tb : Table) → Fin (tcTables nBuf tb) → BufTy
  | .hbm, ⟨0, _⟩ => ⟨S1024x64, .f32⟩
  | .hbm, ⟨1, _⟩ => ⟨S20000x64, .f32⟩
  | .hbm, ⟨2, _⟩ => ⟨S20000x32, .f32⟩
  | .hbm, ⟨3, _⟩ => ⟨S20000x64, .f32⟩
  | .hbm, ⟨4, _⟩ => ⟨S20000x64, .f32⟩
  | .hbm, ⟨5, _⟩ => ⟨S100x32, .f32⟩
  | .hbm, ⟨6, _⟩ => ⟨S100x32, .f32⟩
  | .hbm, ⟨7, _⟩ => ⟨S20000, .i32⟩
  | .hbm, ⟨8, _⟩ => ⟨S20000, .i32⟩
  | .hbm, ⟨9, _⟩ => ⟨S100x100, .f32⟩
  | .hbm, ⟨10, _⟩ => ⟨S100x100, .f32⟩
  | .hbm, ⟨11, _⟩ => ⟨S64x32, .f32⟩
  | .hbm, ⟨12, _⟩ => ⟨S32, .f32⟩
  | .hbm, ⟨13, _⟩ => ⟨S64x32, .f32⟩
  | .hbm, ⟨14, _⟩ => ⟨S32, .f32⟩
  | .hbm, ⟨15, _⟩ => ⟨S20000x1, .i32⟩
  | .hbm, ⟨16, _⟩ => ⟨S20000x1, .i32⟩
  | .hbm, ⟨17, _⟩ => ⟨S32x1, .f32⟩
  | .hbm, ⟨18, _⟩ => ⟨S32x1, .f32⟩
  | .hbm, ⟨19, _⟩ => ⟨S1024x32, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x32, .f32⟩
  | .local _ .vmem, ⟨7, _⟩ => ⟨S2000x32, .f32⟩
  | .local _ .vmem, ⟨8, _⟩ => ⟨S2000x1, .i32⟩
  | .local _ .vmem, ⟨9, _⟩ => ⟨S2000x1, .i32⟩
  | .local _ .vmem, ⟨10, _⟩ => ⟨S2000x1, .i32⟩
  | .local _ .vmem, ⟨11, _⟩ => ⟨S2000x1, .i32⟩
  | .local _ .vmem, ⟨12, _⟩ => ⟨S1024x64, .f32⟩
  | .local _ .vmem, ⟨13, _⟩ => ⟨S64x32, .f32⟩
  | .local _ .vmem, ⟨14, _⟩ => ⟨S64x32, .f32⟩
  | .local _ .vmem, ⟨15, _⟩ => ⟨S32x1, .f32⟩
  | .local _ .vmem, ⟨16, _⟩ => ⟨S32x1, .f32⟩
  | .local _ .vmem, ⟨17, _⟩ => ⟨S100x32, .f32⟩
  | .local _ .vmem, ⟨18, _⟩ => ⟨S100x32, .f32⟩
  | .local _ .vmem, ⟨19, _⟩ => ⟨S100x100, .f32⟩
  | .local _ .vmem, ⟨20, _⟩ => ⟨S100x100, .f32⟩
  | .local _ .vmem, ⟨21, _⟩ => ⟨S1024x32, .f32⟩
  | .local _ .vmem, ⟨22, _⟩ => ⟨S64x1024, .f32⟩
  | .local _ .vmem, ⟨23, _⟩ => ⟨S129x1024, .f32⟩
  | .local _ .vmem, ⟨24, _⟩ => ⟨S164x1024, .f32⟩
  | .local _ .vmem, ⟨25, _⟩ => ⟨S164x1024, .f32⟩
  | .local _ .vmem, ⟨26, _⟩ => ⟨S33x1024, .f32⟩
  | .local _ .vmem, ⟨27, _⟩ => ⟨S33x1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![21], ![false]⟩

def k0_cond6 (i : grid0.Coords) : BitVec 1 :=
  let arg0 : BitVec 32 := BitVec.ofNat 32 (i 0).val
  let c10_i32_4 : BitVec 32 := 10#32
  let v9 : BitVec 1 := Scalar.cmpi .sgt arg0 c10_i32_4
  let v10 : BitVec 32 := Scalar.extui v9
  let c0_i32_5 : BitVec 32 := 0#32
  let v11 : BitVec 1 := Scalar.cmpi .ne v10 c0_i32_5
  v11

def k0_cond9 (i : grid0.Coords) : BitVec 1 :=
  let arg0 : BitVec 32 := BitVec.ofNat 32 (i 0).val
  let c20_i32 : BitVec 32 := 20#32
  let v62 : BitVec 1 := Scalar.cmpi .eq arg0 c20_i32
  let v63 : BitVec 32 := Scalar.extui v62
  let c0_i32_29 : BitVec 32 := 0#32
  let v64 : BitVec 1 := Scalar.cmpi .ne v63 c0_i32_29
  v64

def cc0_transform_0 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c10_i32 : BitVec 32 := 10#32
  let v0 : BitVec 1 := Scalar.cmpi .slt arg0 c10_i32
  let c10_i32_0 : BitVec 32 := 10#32
  let v1 : BitVec 32 := Scalar.subi arg0 c10_i32_0
  let c1_i32 : BitVec 32 := 1#32
  let v2 : BitVec 32 := Scalar.subi v1 c1_i32
  let c0_i32 : BitVec 32 := 0#32
  let c9_i32 : BitVec 32 := 9#32
  let v3 : BitVec 32 := Scalar.maxsi c0_i32 v2
  let v4 : BitVec 32 := Scalar.minsi c9_i32 v3
  let v5 : BitVec 32 := Scalar.select v0 arg0 v4
  let c0_i32_1 : BitVec 32 := 0#32
  let c0_i32_2 : BitVec 32 := 0#32
  ![v5.toNat, c0_i32_1.toNat]

def cc0_transform_2 (i : grid0.Coords) : Fin 2 → Nat :=
  let arg0 : BitVec 32 := BitVec.ofNat 32 (i 0).val
  let c10_i32 : BitVec 32 := 10#32
  let v0 : BitVec 1 := Scalar.cmpi .slt arg0 c10_i32
  let c10_i32_0 : BitVec 32 := 10#32
  let v1 : BitVec 32 := Scalar.subi arg0 c10_i32_0
  let c1_i32 : BitVec 32 := 1#32
  let v2 : BitVec 32 := Scalar.subi v1 c1_i32
  let c0_i32 : BitVec 32 := 0#32
  let c9_i32 : BitVec 32 := 9#32
  let v3 : BitVec 32 := Scalar.maxsi c0_i32 v2
  let v4 : BitVec 32 := Scalar.minsi c9_i32 v3
  let v5 : BitVec 32 := Scalar.select v0 arg0 v4
  let c0_i32_1 : BitVec 32 := 0#32
  let c0_i32_2 : BitVec 32 := 0#32
  ![v5.toNat, c0_i32_1.toNat]

def cc0_transform_3 (i : grid0.Coords) : Fin 2 → Nat :=
  let arg0 : BitVec 32 := BitVec.ofNat 32 (i 0).val
  let c10_i32 : BitVec 32 := 10#32
  let v0 : BitVec 32 := Scalar.subi arg0 c10_i32
  let c1_i32 : BitVec 32 := 1#32
  let v1 : BitVec 32 := Scalar.subi v0 c1_i32
  let c0_i32 : BitVec 32 := 0#32
  let c9_i32 : BitVec 32 := 9#32
  let v2 : BitVec 32 := Scalar.maxsi c0_i32 v1
  let v3 : BitVec 32 := Scalar.minsi c9_i32 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c10_i32 : BitVec 32 := 10#32
  let v0 : BitVec 32 := Scalar.subi arg0 c10_i32
  let c1_i32 : BitVec 32 := 1#32
  let v1 : BitVec 32 := Scalar.subi v0 c1_i32
  let c0_i32 : BitVec 32 := 0#32
  let c9_i32 : BitVec 32 := 9#32
  let v2 : BitVec 32 := Scalar.maxsi c0_i32 v1
  let v3 : BitVec 32 := Scalar.minsi c9_i32 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c10_i32 : BitVec 32 := 10#32
  let v0 : BitVec 32 := Scalar.subi arg0 c10_i32
  let c1_i32 : BitVec 32 := 1#32
  let v1 : BitVec 32 := Scalar.subi v0 c1_i32
  let c0_i32 : BitVec 32 := 0#32
  let c9_i32 : BitVec 32 := 9#32
  let v2 : BitVec 32 := Scalar.maxsi c0_i32 v1
  let v3 : BitVec 32 := Scalar.minsi c9_i32 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S100x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S100x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S100x100 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S100x100 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S1024x64 : Shape := ⟨2, ![1024, 64]⟩
abbrev S20000x64 : Shape := ⟨2, ![20000, 64]⟩
abbrev S20000x32 : Shape := ⟨2, ![20000, 32]⟩
abbrev S100x32 : Shape := ⟨2, ![100, 32]⟩
abbrev S20000 : Shape := ⟨1, ![20000]⟩
abbrev S100x100 : Shape := ⟨2, ![100, 100]⟩
abbrev S64x32 : Shape := ⟨2, ![64, 32]⟩
abbrev S32 : Shape := ⟨1, ![32]⟩
abbrev S_ : Shape := ⟨0, ![]⟩
abbrev S20000x1 : Shape := ⟨2, ![20000, 1]⟩
abbrev S1024 : Shape := ⟨1, ![1024]⟩
abbrev S1x1024 : Shape := ⟨2, ![1, 1024]⟩
abbrev S20000x1024 : Shape := ⟨2, ![20000, 1024]⟩
abbrev S64x1024 : Shape := ⟨2, ![64, 1024]⟩
abbrev S64x20000 : Shape := ⟨2, ![64, 20000]⟩
abbrev S1024x32 : Shape := ⟨2, ![1024, 32]⟩
abbrev S1x32 : Shape := ⟨2, ![1, 32]⟩
abbrev S1024x1 : Shape := ⟨2, ![1024, 1]⟩
abbrev S100 : Shape := ⟨1, ![100]⟩
abbrev S1x100 : Shape := ⟨2, ![1, 100]⟩
abbrev S1024x100 : Shape := ⟨2, ![1024, 100]⟩
abbrev S32x100 : Shape := ⟨2, ![32, 100]⟩
abbrev S20000x100 : Shape := ⟨2, ![20000, 100]⟩
abbrev S32x20000 : Shape := ⟨2, ![32, 20000]⟩
abbrev S32x1024 : Shape := ⟨2, ![32, 1024]⟩

abbrev nBuf : Space → Nat
  | .hbm => 257
  | .vmem => 0
  | .smem => 0
  | _ => 0

abbrev hbmTy0_0 (i : Nat) : BufTy := match i % 128 with
  | 0 => ⟨S1024x64, .f32⟩
  | 1 => ⟨S20000x64, .f32⟩
  | 2 => ⟨S20000x32, .f32⟩
  | 3 => ⟨S20000x64, .f32⟩
  | 4 => ⟨S20000x64, .f32⟩
  | 5 => ⟨S100x32, .f32⟩
  | 6 => ⟨S100x32, .f32⟩
  | 7 => ⟨S20000, .i32⟩
  | 8 => ⟨S20000, .i32⟩
  | 9 => ⟨S100x100, .f32⟩
  | 10 => ⟨S100x100, .f32⟩
  | 11 => ⟨S64x32, .f32⟩
  | 12 => ⟨S32, .f32⟩
  | 13 => ⟨S64x32, .f32⟩
  | 14 => ⟨S32, .f32⟩
  | 15 => ⟨S20000x64, .f32⟩
  | 16 => ⟨S_, .f32⟩
  | 17 => ⟨S20000, .f32⟩
  | 18 => ⟨S20000x1, .f32⟩
  | 19 => ⟨S1024x64, .f32⟩
  | 20 => ⟨S_, .f32⟩
  | 21 => ⟨S1024, .f32⟩
  | 22 => ⟨S1x1024, .f32⟩
  | 23 => ⟨S20000x1024, .f32⟩
  | 24 => ⟨S20000x1024, .f32⟩
  | 25 => ⟨S20000x1024, .f32⟩
  | 26 => ⟨S64x1024, .f32⟩
  | 27 => ⟨S20000x1024, .f32⟩
  | 28 => ⟨S_, .f32⟩
  | 29 => ⟨S20000x1024, .f32⟩
  | 30 => ⟨S20000x1024, .f32⟩
  | 31 => ⟨S20000x1024, .f32⟩
  | 32 => ⟨S_, .f32⟩
  | 33 => ⟨S_, .f32⟩
  | 34 => ⟨S20000x1024, .f32⟩
  | 35 => ⟨S20000x1024, .f32⟩
  | 36 => ⟨S20000x1024, .f32⟩
  | 37 => ⟨S20000x1024, .f32⟩
  | 38 => ⟨S20000x1024, .f32⟩
  | 39 => ⟨S20000x1024, .f32⟩
  | 40 => ⟨S64x20000, .f32⟩
  | 41 => ⟨S64x1024, .f32⟩
  | 42 => ⟨S_, .f32⟩
  | 43 => ⟨S1024, .f32⟩
  | 44 => ⟨S1x1024, .f32⟩
  | 45 => ⟨S64x1024, .f32⟩
  | 46 => ⟨S64x1024, .f32⟩
  | 47 => ⟨S1024x64, .f32⟩
  | 48 => ⟨S20000x64, .f32⟩
  | 49 => ⟨S_, .f32⟩
  | 50 => ⟨S20000, .f32⟩
  | 51 => ⟨S20000x1, .f32⟩
  | 52 => ⟨S1024x64, .f32⟩
  | 53 => ⟨S_, .f32⟩
  | 54 => ⟨S1024, .f32⟩
  | 55 => ⟨S1x1024, .f32⟩
  | 56 => ⟨S20000x1024, .f32⟩
  | 57 => ⟨S20000x1024, .f32⟩
  | 58 => ⟨S20000x1024, .f32⟩
  | 59 => ⟨S64x1024, .f32⟩
  | 60 => ⟨S20000x1024, .f32⟩
  | 61 => ⟨S_, .f32⟩
  | 62 => ⟨S20000x1024, .f32⟩
  | 63 => ⟨S20000x1024, .f32⟩
  | 64 => ⟨S20000x1024, .f32⟩
  | 65 => ⟨S_, .f32⟩
  | 66 => ⟨S_, .f32⟩
  | 67 => ⟨S20000x1024, .f32⟩
  | 68 => ⟨S20000x1024, .f32⟩
  | 69 => ⟨S20000x1024, .f32⟩
  | 70 => ⟨S20000x1024, .f32⟩
  | 71 => ⟨S20000x1024, .f32⟩
  | 72 => ⟨S20000x1024, .f32⟩
  | 73 => ⟨S64x20000, .f32⟩
  | 74 => ⟨S64x1024, .f32⟩
  | 75 => ⟨S_, .f32⟩
  | 76 => ⟨S1024, .f32⟩
  | 77 => ⟨S1x1024, .f32⟩
  | 78 => ⟨S64x1024, .f32⟩
  | 79 => ⟨S64x1024, .f32⟩
  | 80 => ⟨S1024x64, .f32⟩
  | 81 => ⟨S1024x32, .f32⟩
  | 82 => ⟨S1x32, .f32⟩
  | 83 => ⟨S1024x32, .f32⟩
  | 84 => ⟨S1024x32, .f32⟩
  | 85 => ⟨S1024x32, .f32⟩
  | 86 => ⟨S1x32, .f32⟩
  | 87 => ⟨S1024x32, .f32⟩
  | 88 => ⟨S1024x32, .f32⟩
  | 89 => ⟨S1024x32, .f32⟩
  | 90 => ⟨S_, .f32⟩
  | 91 => ⟨S1024, .f32⟩
  | 92 => ⟨S1024x1, .f32⟩
  | 93 => ⟨S100x32, .f32⟩
  | 94 => ⟨S_, .f32⟩
  | 95 => ⟨S100, .f32⟩
  | 96 => ⟨S1x100, .f32⟩
  | 97 => ⟨S1024x100, .f32⟩
  | 98 => ⟨S1024x100, .f32⟩
  | 99 => ⟨S1024x100, .f32⟩
  | 100 => ⟨S32x100, .f32⟩
  | 101 => ⟨S1024x100, .f32⟩
  | 102 => ⟨S_, .f32⟩
  | 103 => ⟨S1024x100, .f32⟩
  | 104 => ⟨S1024x100, .f32⟩
  | 105 => ⟨S1024x100, .f32⟩
  | 106 => ⟨S_, .f32⟩
  | 107 => ⟨S_, .f32⟩
  | 108 => ⟨S1024x100, .f32⟩
  | 109 => ⟨S1024x100, .f32⟩
  | 110 => ⟨S1024x100, .f32⟩
  | 111 => ⟨S1024x100, .i32⟩
  | 112 => ⟨S_, .f32⟩
  | 113 => ⟨S_, .i32⟩
  | 114 => ⟨S1024, .f32⟩
  | 115 => ⟨S1024, .i32⟩
  | 116 => ⟨S1024x32, .f32⟩
  | 117 => ⟨S_, .f32⟩
  | 118 => ⟨S1024, .f32⟩
  | 119 => ⟨S1024x1, .f32⟩
  | 120 => ⟨S100x32, .f32⟩
  | 121 => ⟨S_, .f32⟩
  | 122 => ⟨S100, .f32⟩
  | 123 => ⟨S1x100, .f32⟩
  | 124 => ⟨S1024x100, .f32⟩
  | 125 => ⟨S1024x100, .f32⟩
  | 126 => ⟨S1024x100, .f32⟩
  | 127 => ⟨S32x100, .f32⟩
  | _ => ⟨S1024x64, .f32⟩

abbrev hbmTy0_1 (i : Nat) : BufTy := match i % 128 with
  | 0 => ⟨S1024x100, .f32⟩
  | 1 => ⟨S_, .f32⟩
  | 2 => ⟨S1024x100, .f32⟩
  | 3 => ⟨S1024x100, .f32⟩
  | 4 => ⟨S1024x100, .f32⟩
  | 5 => ⟨S_, .f32⟩
  | 6 => ⟨S_, .f32⟩
  | 7 => ⟨S1024x100, .f32⟩
  | 8 => ⟨S1024x100, .f32⟩
  | 9 => ⟨S1024x100, .f32⟩
  | 10 => ⟨S1024x100, .i32⟩
  | 11 => ⟨S_, .f32⟩
  | 12 => ⟨S_, .i32⟩
  | 13 => ⟨S1024, .f32⟩
  | 14 => ⟨S1024, .i32⟩
  | 15 => ⟨S_, .i32⟩
  | 16 => ⟨S20000, .i32⟩
  | 17 => ⟨S20000, .i1⟩
  | 18 => ⟨S_, .i32⟩
  | 19 => ⟨S20000, .i32⟩
  | 20 => ⟨S20000, .i32⟩
  | 21 => ⟨S20000, .i32⟩
  | 22 => ⟨S20000x1, .i32⟩
  | 23 => ⟨S20000x100, .f32⟩
  | 24 => ⟨S_, .i32⟩
  | 25 => ⟨S1024, .i32⟩
  | 26 => ⟨S1024, .i1⟩
  | 27 => ⟨S_, .i32⟩
  | 28 => ⟨S1024, .i32⟩
  | 29 => ⟨S1024, .i32⟩
  | 30 => ⟨S1024, .i32⟩
  | 31 => ⟨S1024x1, .i32⟩
  | 32 => ⟨S20000x1024, .f32⟩
  | 33 => ⟨S20000x64, .f32⟩
  | 34 => ⟨S_, .f32⟩
  | 35 => ⟨S20000, .f32⟩
  | 36 => ⟨S20000x1, .f32⟩
  | 37 => ⟨S1024x64, .f32⟩
  | 38 => ⟨S_, .f32⟩
  | 39 => ⟨S1024, .f32⟩
  | 40 => ⟨S1x1024, .f32⟩
  | 41 => ⟨S20000x1024, .f32⟩
  | 42 => ⟨S20000x1024, .f32⟩
  | 43 => ⟨S20000x1024, .f32⟩
  | 44 => ⟨S64x1024, .f32⟩
  | 45 => ⟨S20000x1024, .f32⟩
  | 46 => ⟨S_, .f32⟩
  | 47 => ⟨S20000x1024, .f32⟩
  | 48 => ⟨S20000x1024, .f32⟩
  | 49 => ⟨S20000x1024, .f32⟩
  | 50 => ⟨S_, .f32⟩
  | 51 => ⟨S_, .f32⟩
  | 52 => ⟨S20000x1024, .f32⟩
  | 53 => ⟨S20000x1024, .f32⟩
  | 54 => ⟨S20000x1024, .f32⟩
  | 55 => ⟨S20000x1024, .f32⟩
  | 56 => ⟨S20000x1024, .f32⟩
  | 57 => ⟨S_, .f32⟩
  | 58 => ⟨S20000x1024, .f32⟩
  | 59 => ⟨S20000x1024, .f32⟩
  | 60 => ⟨S20000x1024, .f32⟩
  | 61 => ⟨S20000x1024, .f32⟩
  | 62 => ⟨S32x20000, .f32⟩
  | 63 => ⟨S32x1024, .f32⟩
  | 64 => ⟨S_, .f32⟩
  | 65 => ⟨S1024, .f32⟩
  | 66 => ⟨S1x1024, .f32⟩
  | 67 => ⟨S32x1024, .f32⟩
  | 68 => ⟨S32x1024, .f32⟩
  | 69 => ⟨S1024x32, .f32⟩
  | 70 => ⟨S_, .i32⟩
  | 71 => ⟨S20000, .i32⟩
  | 72 => ⟨S20000, .i1⟩
  | 73 => ⟨S_, .i32⟩
  | 74 => ⟨S20000, .i32⟩
  | 75 => ⟨S20000, .i32⟩
  | 76 => ⟨S20000, .i32⟩
  | 77 => ⟨S20000x1, .i32⟩
  | 78 => ⟨S20000x100, .f32⟩
  | 79 => ⟨S_, .i32⟩
  | 80 => ⟨S1024, .i32⟩
  | 81 => ⟨S1024, .i1⟩
  | 82 => ⟨S_, .i32⟩
  | 83 => ⟨S1024, .i32⟩
  | 84 => ⟨S1024, .i32⟩
  | 85 => ⟨S1024, .i32⟩
  | 86 => ⟨S1024x1, .i32⟩
  | 87 => ⟨S20000x1024, .f32⟩
  | 88 => ⟨S20000x64, .f32⟩
  | 89 => ⟨S_, .f32⟩
  | 90 => ⟨S20000, .f32⟩
  | 91 => ⟨S20000x1, .f32⟩
  | 92 => ⟨S1024x64, .f32⟩
  | 93 => ⟨S_, .f32⟩
  | 94 => ⟨S1024, .f32⟩
  | 95 => ⟨S1x1024, .f32⟩
  | 96 => ⟨S20000x1024, .f32⟩
  | 97 => ⟨S20000x1024, .f32⟩
  | 98 => ⟨S20000x1024, .f32⟩
  | 99 => ⟨S64x1024, .f32⟩
  | 100 => ⟨S20000x1024, .f32⟩
  | 101 => ⟨S_, .f32⟩
  | 102 => ⟨S20000x1024, .f32⟩
  | 103 => ⟨S20000x1024, .f32⟩
  | 104 => ⟨S20000x1024, .f32⟩
  | 105 => ⟨S_, .f32⟩
  | 106 => ⟨S_, .f32⟩
  | 107 => ⟨S20000x1024, .f32⟩
  | 108 => ⟨S20000x1024, .f32⟩
  | 109 => ⟨S20000x1024, .f32⟩
  | 110 => ⟨S20000x1024, .f32⟩
  | 111 => ⟨S20000x1024, .f32⟩
  | 112 => ⟨S_, .f32⟩
  | 113 => ⟨S20000x1024, .f32⟩
  | 114 => ⟨S20000x1024, .f32⟩
  | 115 => ⟨S20000x1024, .f32⟩
  | 116 => ⟨S20000x1024, .f32⟩
  | 117 => ⟨S32x20000, .f32⟩
  | 118 => ⟨S32x1024, .f32⟩
  | 119 => ⟨S_, .f32⟩
  | 120 => ⟨S1024, .f32⟩
  | 121 => ⟨S1x1024, .f32⟩
  | 122 => ⟨S32x1024, .f32⟩
  | 123 => ⟨S32x1024, .f32⟩
  | 124 => ⟨S1024x32, .f32⟩
  | 125 => ⟨S1024x32, .f32⟩
  | 126 => ⟨S_, .f32⟩
  | 127 => ⟨S1024x32, .f32⟩
  | _ => ⟨S1024x64, .f32⟩

abbrev hbmTy0_2 (i : Nat) : BufTy := match i % 128 with
  | 0 => ⟨S1024x32, .f32⟩
  | _ => ⟨S1024x64, .f32⟩

abbrev hbmTy (i : Nat) : BufTy := match i / 128 with
  | 0 => hbmTy0_0 i
  | 1 => hbmTy0_1 i
  | 2 => hbmTy0_2 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_call1_v0 : Ref sig .tc := ⟨.hbm, 66, rfl⟩
abbrev main_call1_v1 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_9 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_11 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_12 : Ref sig .tc := ⟨.hbm, 106, rfl⟩
abbrev main_call2_v0 : Ref sig .tc := ⟨.hbm, 107, rfl⟩
abbrev main_call2_v1 : Ref sig .tc := ⟨.hbm, 108, rfl⟩
abbrev main_v74 : Ref sig .tc := ⟨.hbm, 109, rfl⟩
abbrev main_v75 : Ref sig .tc := ⟨.hbm, 110, rfl⟩
abbrev main_call3_v0 : Ref sig .tc := ⟨.hbm, 111, rfl⟩
abbrev main_call3_cst : Ref sig .tc := ⟨.hbm, 112, rfl⟩
abbrev main_call3_c : Ref sig .tc := ⟨.hbm, 113, rfl⟩
abbrev main_call3_v1_0 : Ref sig .tc := ⟨.hbm, 114, rfl⟩
abbrev main_v76 : Ref sig .tc := ⟨.hbm, 115, rfl⟩
abbrev main_v77 : Ref sig .tc := ⟨.hbm, 116, rfl⟩
abbrev main_cst_13 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_14 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_15 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_16 : Ref sig .tc := ⟨.hbm, 133, rfl⟩
abbrev main_call4_v0 : Ref sig .tc := ⟨.hbm, 134, rfl⟩
abbrev main_call4_v1 : Ref sig .tc := ⟨.hbm, 135, rfl⟩
abbrev main_v91 : Ref sig .tc := ⟨.hbm, 136, rfl⟩
abbrev main_v92 : Ref sig .tc := ⟨.hbm, 137, rfl⟩
abbrev main_call5_v0 : Ref sig .tc := ⟨.hbm, 138, rfl⟩
abbrev main_call5_cst : Ref sig .tc := ⟨.hbm, 139, rfl⟩
abbrev main_call5_c : Ref sig .tc := ⟨.hbm, 140, rfl⟩
abbrev main_call5_v1_0 : Ref sig .tc := ⟨.hbm, 141, rfl⟩
abbrev main_v93 : Ref sig .tc := ⟨.hbm, 142, rfl⟩
abbrev main_c : Ref sig .tc := ⟨.hbm, 143, rfl⟩
abbrev main_v94 : Ref sig .tc := ⟨.hbm, 144, rfl⟩
abbrev main_v95 : Ref sig .tc := ⟨.hbm, 145, rfl⟩
abbrev main_c_17 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_c_18 : Ref sig .tc := ⟨.hbm, 152, rfl⟩
abbrev main_v101 : Ref sig .tc := ⟨.hbm, 153, rfl⟩
abbrev main_v102 : Ref sig .tc := ⟨.hbm, 154, rfl⟩
abbrev main_c_19 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_20 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_cst_21 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_cst_22 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_cst_23 : Ref sig .tc := ⟨.hbm, 178, rfl⟩
abbrev main_call6_v0 : Ref sig .tc := ⟨.hbm, 179, rfl⟩
abbrev main_call6_v1 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_cst_24 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_cst_25 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_c_26 : Ref sig .tc := ⟨.hbm, 198, rfl⟩
abbrev main_v137 : Ref sig .tc := ⟨.hbm, 199, rfl⟩
abbrev main_v138 : Ref sig .tc := ⟨.hbm, 200, rfl⟩
abbrev main_c_27 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_c_28 : Ref sig .tc := ⟨.hbm, 207, rfl⟩
abbrev main_v144 : Ref sig .tc := ⟨.hbm, 208, rfl⟩
abbrev main_v145 : Ref sig .tc := ⟨.hbm, 209, rfl⟩
abbrev main_c_29 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_cst_30 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_cst_31 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_cst_32 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_cst_33 : Ref sig .tc := ⟨.hbm, 233, rfl⟩
abbrev main_call7_v0 : Ref sig .tc := ⟨.hbm, 234, rfl⟩
abbrev main_call7_v1 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_cst_34 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_cst_35 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_cst_36 : Ref sig .tc := ⟨.hbm, 254, rfl⟩
abbrev main_v181 : Ref sig .tc := ⟨.hbm, 255, rfl⟩
abbrev main_v182 : Ref sig .tc := ⟨.hbm, 256, rfl⟩

abbrev nD : Nat := 1
abbrev τ : Topo := Topo.v7x

variable {F : FTy → Type} [FloatOps F]
-- ==== Proof.KernelBody.lean ====
/- What one run of the kernel body does, by cases on the grid point: the six scratch arrays the body carries from point
   to point, as functions of the input blocks and of what the point before left. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.VecWindow
public import Idealize.ShloMosaic.Lib.WordCmp
public import Idealize.ShloMosaic.Lib.WritesUnit
public import Idealize.ShloMosaic.Lib.Pipeline.TableIdle
public import Idealize.ShloMosaic.Lib.ValueIdxCore

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

/-- The memory references the body is called with: fifteen inputs, the output, six scratch arrays, each a whole buffer. -/
structure Mems where
  a1 : Memref sig .tc .vmem S2000x64 .f32
  h1 : a1.IsWhole
  a2 : Memref sig .tc .vmem S2000x64 .f32
  h2 : a2.IsWhole
  a3 : Memref sig .tc .vmem S2000x64 .f32
  h3 : a3.IsWhole
  a4 : Memref sig .tc .vmem S2000x32 .f32
  h4 : a4.IsWhole
  a5 : Memref sig .tc .vmem S2000x1 .i32
  h5 : a5.IsWhole
  a6 : Memref sig .tc .vmem S2000x1 .i32
  h6 : a6.IsWhole
  a7 : Memref sig .tc .vmem S1024x64 .f32
  h7 : a7.IsWhole
  a8 : Memref sig .tc .vmem S64x32 .f32
  h8 : a8.IsWhole
  a9 : Memref sig .tc .vmem S64x32 .f32
  h9 : a9.IsWhole
  a10 : Memref sig .tc .vmem S32x1 .f32
  h10 : a10.IsWhole
  a11 : Memref sig .tc .vmem S32x1 .f32
  h11 : a11.IsWhole
  a12 : Memref sig .tc .vmem S100x32 .f32
  h12 : a12.IsWhole
  a13 : Memref sig .tc .vmem S100x32 .f32
  h13 : a13.IsWhole
  a14 : Memref sig .tc .vmem S100x100 .f32
  h14 : a14.IsWhole
  a15 : Memref sig .tc .vmem S100x100 .f32
  h15 : a15.IsWhole
  a16 : Memref sig .tc .vmem S1024x32 .f32
  h16 : a16.IsWhole
  a17 : Memref sig .tc .vmem S64x1024 .f32
  h17 : a17.IsWhole
  a18 : Memref sig .tc .vmem S129x1024 .f32
  h18 : a18.IsWhole
  a19 : Memref sig .tc .vmem S164x1024 .f32
  h19 : a19.IsWhole
  a20 : Memref sig .tc .vmem S164x1024 .f32
  h20 : a20.IsWhole
  a21 : Memref sig .tc .vmem S33x1024 .f32
  h21 : a21.IsWhole
  a22 : Memref sig .tc .vmem S33x1024 .f32
  h22 : a22.IsWhole

/-- The input blocks of one grid point. -/
structure Ins (F : FTy → Type) where
  fs : Vec F S2000x64 .f32
  f1 : Vec F S2000x64 .f32
  f2 : Vec F S2000x64 .f32
  ls : Vec F S2000x32 .f32
  li1 : Vec F S2000x1 .i32
  li2 : Vec F S2000x1 .i32
  x : Vec F S1024x64 .f32
  w1 : Vec F S64x32 .f32
  w2 : Vec F S64x32 .f32
  b1 : Vec F S32x1 .f32
  b2 : Vec F S32x1 .f32
  u1 : Vec F S100x32 .f32
  u2 : Vec F S100x32 .f32
  d1 : Vec F S100x100 .f32
  d2 : Vec F S100x100 .f32

/-- The contents of the six scratch arrays: the doubled transposed queries, the phase-one sums, the two stacked
    right-hand sides of phase three, and the two phase-three sums. -/
structure Scr (F : FTy → Type) where
  x2 : Vec F S64x1024 .f32
  s : Vec F S129x1024 .f32
  p1 : Vec F S164x1024 .f32
  p2 : Vec F S164x1024 .f32
  y1 : Vec F S33x1024 .f32
  y2 : Vec F S33x1024 .f32

/-- The input buffers hold the blocks `X`. -/
def ins (c : Dev nD) (M : Mems) (X : Ins F) : sProp 𝕄 :=
  iprop(owns (c : Thread nD τ) M.a1 fullShare X.fs ∗ owns (c : Thread nD τ) M.a2 fullShare X.f1
    ∗ owns (c : Thread nD τ) M.a3 fullShare X.f2 ∗ owns (c : Thread nD τ) M.a4 fullShare X.ls
    ∗ owns (c : Thread nD τ) M.a5 fullShare X.li1 ∗ owns (c : Thread nD τ) M.a6 fullShare X.li2
    ∗ owns (c : Thread nD τ) M.a7 fullShare X.x ∗ owns (c : Thread nD τ) M.a8 fullShare X.w1
    ∗ owns (c : Thread nD τ) M.a9 fullShare X.w2 ∗ owns (c : Thread nD τ) M.a10 fullShare X.b1
    ∗ owns (c : Thread nD τ) M.a11 fullShare X.b2 ∗ owns (c : Thread nD τ) M.a12 fullShare X.u1
    ∗ owns (c : Thread nD τ) M.a13 fullShare X.u2 ∗ owns (c : Thread nD τ) M.a14 fullShare X.d1
    ∗ owns (c : Thread nD τ) M.a15 fullShare X.d2)

/-- The scratch buffers hold `σ`. -/
def scr (c : Dev nD) (M : Mems) (σ : Scr F) : sProp 𝕄 :=
  iprop(owns (c : Thread nD τ) M.a17 fullShare σ.x2 ∗ owns (c : Thread nD τ) M.a18 fullShare σ.s
    ∗ owns (c : Thread nD τ) M.a19 fullShare σ.p1 ∗ owns (c : Thread nD τ) M.a20 fullShare σ.p2
    ∗ owns (c : Thread nD τ) M.a21 fullShare σ.y1 ∗ owns (c : Thread nD τ) M.a22 fullShare σ.y2)

/-- The body on the references `M`. -/
abbrev body (i : grid0.Coords) (M : Mems) : Prog (TpuEff nD τ sig (Elt F) Λ₀ .tc) PUnit :=
  cc0__fused i M.a1 M.h1 M.a2 M.h2 M.a3 M.h3 M.a4 M.h4 M.a5 M.h5 M.a6 M.h6 M.a7 M.h7 M.a8 M.h8 M.a9 M.h9 M.a10 M.h10
    M.a11 M.h11 M.a12 M.h12 M.a13 M.h13 M.a14 M.h14 M.a15 M.h15 M.a16 M.h16 M.a17 M.h17 M.a18 M.h18 M.a19 M.h19
    M.a20 M.h20 M.a21 M.h21 M.a22 M.h22

/-- The conditions of the body's conditionals, at the grid coordinate. -/
abbrev isFirst (i : grid0.Coords) : Prop := (Scalar.cmpi .ne (Scalar.extui (Scalar.cmpi .eq (BitVec.ofNat 32 (i 0).val) 0#32)) 0#32) = 1#1
abbrev inA (i : grid0.Coords) : Prop := (Scalar.cmpi .ne (Scalar.extui (Scalar.cmpi .slt (BitVec.ofNat 32 (i 0).val) 10#32)) 0#32) = 1#1
abbrev pastFirst (i : grid0.Coords) : Prop := (Scalar.cmpi .ne (Scalar.extui (Scalar.cmpi .sgt (BitVec.ofNat 32 (i 0).val) 0#32)) 0#32) = 1#1
abbrev inB (i : grid0.Coords) : Prop := (Scalar.cmpi .ne (Scalar.extui (Scalar.cmpi .eq (BitVec.ofNat 32 (i 0).val) 10#32)) 0#32) = 1#1
abbrev inC (i : grid0.Coords) : Prop := k0_cond6 i = 1#1
abbrev startC (i : grid0.Coords) : Prop := (Scalar.cmpi .ne (Scalar.extui (Scalar.cmpi .eq (BitVec.ofNat 32 (i 0).val) 11#32)) 0#32) = 1#1
abbrev pastC (i : grid0.Coords) : Prop := (Scalar.cmpi .ne (Scalar.extui (Scalar.cmpi .sgt (BitVec.ofNat 32 (i 0).val) 11#32)) 0#32) = 1#1
abbrev isLast (i : grid0.Coords) : Prop := k0_cond9 i = 1#1

/-- A whole buffer held at `x`, as the points-to of its elements. -/
theorem owns_pt {sp : Space} {S : Shape} {e : EltTy} (c : Dev nD) (a : Memref sig .tc sp S e) (x : S.Idx → Elt F e) :
    (owns (c : Thread nD τ) a fullShare x : sProp 𝕄) = (a.view.loc (c : Thread nD τ) ↦[a.view.set]{fullShare} a.view.rep x) :=
  owns_eq_rep (c : Thread nD τ) a fullShare x

/-- Contents that read `x` hold `x`. -/
theorem give {sp : Space} {S : Shape} {e : EltTy} (c : Dev nD) (a : Memref sig .tc sp S e) {f : a.view.ty.Contents (Elt F)}
    {x : S.Idx → Elt F e} (hf : a.view.read (Elt F) f = x) :
    (a.view.loc (c : Thread nD τ) ↦[a.view.set]{fullShare} f : sProp 𝕄)
      ⊢ (a.view.loc (c : Thread nD τ) ↦[a.view.set]{fullShare} a.view.rep x) := by
  rw [← owns_pt]
  unfold owns
  iintro H
  iexists f
  isplitr
  · ipureintro; exact hf
  iexact H

/-- Sixty-four rows over a hundred rows. -/
def stack (A : Vec F S64x1024 .f32) (B : Vec F S100x1024 .f32) : Vec F S164x1024 .f32 := fun y =>
  if h : (y 0).val < 64 then A (ix2 ⟨(y 0).val, h⟩ (y 1))
  else B (ix2 ⟨(y 0).val - 64, by have : (y 0).val < 164 := (y 0).isLt; omega⟩ (y 1))

/-- The two stores of the stacked array, the upper rows first, leave the stack. -/
theorem read_stack (v : View sig .tc .vmem S164x1024 .f32) (f : v.ty.Contents (Elt F))
    (A : Vec F S64x1024 .f32) (B : Vec F S100x1024 .f32) :
    v.read (Elt F) (v.writes (Elt F) f
      [⟨Rect.unit ![64, 0] S100x1024.size inb_S164x1024_S100x1024_64_0, B⟩,
       ⟨Rect.unit ![0, 0] S64x1024.size inb_S164x1024_S64x1024_0_0, A⟩]) = stack A B := by
  funext y
  have hy : (y 0).val < 164 := (y 0).isLt
  unfold stack
  by_cases h : (y 0).val < 64
  · rw [dif_pos h]
    refine (View.read_writes_cons_rows_of_not_mem v f inb_S164x1024_S100x1024_64_0 B _ y rfl rfl (Or.inl h)).trans ?_
    exact View.read_writes_cons_rows_of_mem v f _ A [] y (ix2 ⟨(y 0).val, h⟩ (y 1)) rfl (by simp [ix2]) rfl
  · rw [dif_neg h]
    exact View.read_writes_cons_rows_of_mem v f _ B _ y
      (ix2 ⟨(y 0).val - 64, by omega⟩ (y 1)) rfl (by show (y 0).val = 64 + ((y 0).val - 64); omega) rfl

/-- What phase one touches: three feature blocks, the queries, the doubled queries `x2` and the sums `s`. -/
def heldA (c : Dev nD) (M : Mems) (X : Ins F) (x2 : Vec F S64x1024 .f32) (s : Vec F S129x1024 .f32) : sProp 𝕄 :=
  iprop(owns (c : Thread nD τ) M.a1 fullShare X.fs ∗ owns (c : Thread nD τ) M.a2 fullShare X.f1
    ∗ owns (c : Thread nD τ) M.a3 fullShare X.f2 ∗ owns (c : Thread nD τ) M.a7 fullShare X.x
    ∗ owns (c : Thread nD τ) M.a17 fullShare x2 ∗ owns (c : Thread nD τ) M.a18 fullShare s)

/-- What phase two touches: the sums, both sides' weights, offsets, label vectors and distances, and the two stacks. -/
def heldB (c : Dev nD) (M : Mems) (X : Ins F) (s : Vec F S129x1024 .f32) (p1 p2 : Vec F S164x1024 .f32) : sProp 𝕄 :=
  iprop(owns (c : Thread nD τ) M.a8 fullShare X.w1 ∗ owns (c : Thread nD τ) M.a9 fullShare X.w2
    ∗ owns (c : Thread nD τ) M.a10 fullShare X.b1 ∗ owns (c : Thread nD τ) M.a11 fullShare X.b2
    ∗ owns (c : Thread nD τ) M.a12 fullShare X.u1 ∗ owns (c : Thread nD τ) M.a13 fullShare X.u2
    ∗ owns (c : Thread nD τ) M.a14 fullShare X.d1 ∗ owns (c : Thread nD τ) M.a15 fullShare X.d2
    ∗ owns (c : Thread nD τ) M.a18 fullShare s
    ∗ owns (c : Thread nD τ) M.a19 fullShare p1 ∗ owns (c : Thread nD τ) M.a20 fullShare p2)

/-- What phase three touches: the labels, both sides' features and label indices, the stacks, the two sums and the output. -/
def heldC (c : Dev nD) (M : Mems) (X : Ins F) (p1 p2 : Vec F S164x1024 .f32) (y1 y2 : Vec F S33x1024 .f32)
    (o : Vec F S1024x32 .f32) : sProp 𝕄 :=
  iprop(owns (c : Thread nD τ) M.a2 fullShare X.f1 ∗ owns (c : Thread nD τ) M.a3 fullShare X.f2
    ∗ owns (c : Thread nD τ) M.a4 fullShare X.ls ∗ owns (c : Thread nD τ) M.a5 fullShare X.li1
    ∗ owns (c : Thread nD τ) M.a6 fullShare X.li2 ∗ owns (c : Thread nD τ) M.a16 fullShare o
    ∗ owns (c : Thread nD τ) M.a19 fullShare p1 ∗ owns (c : Thread nD τ) M.a20 fullShare p2
    ∗ owns (c : Thread nD τ) M.a21 fullShare y1 ∗ owns (c : Thread nD τ) M.a22 fullShare y2)

set_option maxHeartbeats 2000000 in
/-- The first point: the doubled queries are stored and the sums start at the block's contribution. -/
theorem sound_first (c : Dev nD) (i : grid0.Coords) (M : Mems) (X : Ins F) (σ : Scr F) (o : Vec F S1024x32 .f32)
    (h0 : isFirst i) (h1 : inA i) (h2 : ¬pastFirst i) (h3 : ¬inB i) (h4 : ¬inC i)
    (E : Set ℕ) (K : PUnit → sProp 𝕄) :
    iprop(heldA c M X σ.x2 σ.s
        ∗ (heldA c M X (k0_pay1 X.x) (k0_pay3 X.fs (k0_pay1 X.x) X.f1 X.f2) -∗ K ⟨⟩))
      ⊢ wp frame (wpE (defs₀ (F := F)) Variants.none c none) E (body i M) K := by
  obtain ⟨a1, k1, a2, k2, a3, k3, a4, k4, a5, k5, a6, k6, a7, k7, a8, k8, a9, k9, a10, k10, a11, k11, a12, k12, a13, k13, a14, k14, a15, k15, a16, k16, a17, k17, a18, k18, a19, k19, a20, k20, a21, k21, a22, k22⟩ := M
  unfold body
  dsimp only
  simp only [cc0__fused_eq_skeleton, heldA, owns_pt]; unfold cc0__fused_skel
  iintro ⟨⟨H1, H2, H3, H7, H17, H18⟩, Hk⟩
  sl_exec (disch := first | sl_exact h0 | sl_exact h1 | sl_exact h2 | sl_exact h3 | sl_exact h4)
  sl_step
  iapply Hk
  isplitl [H1]; · iexact H1
  isplitl [H2]; · iexact H2
  isplitl [H3]; · iexact H3
  isplitl [H7]; · iexact H7
  isplitl [H17]; · iapply (give c _ ?_) $$ H17; exact (View.read_writes_full _ _ _ _ _).trans (by congr <;> first | exact View.readAt_rep_full _ _ _ | exact (View.readCov_full (Val := Elt F) _ _ _ _ _).trans (congrArg _ (View.readAt_rep_full _ _ _)))
  iapply (give c _ ?_) $$ H18; exact (View.read_writes_full _ _ _ _ _).trans (by congr <;> first | exact View.readAt_rep_full _ _ _ | exact (View.readCov_full (Val := Elt F) _ _ _ _ _).trans (congrArg _ (View.readAt_rep_full _ _ _)))

set_option maxHeartbeats 2000000 in
/-- Phase one, any point but the first: the sums take the block's contribution. -/
theorem sound_acc (c : Dev nD) (i : grid0.Coords) (M : Mems) (X : Ins F) (σ : Scr F) (o : Vec F S1024x32 .f32)
    (h0 : ¬isFirst i) (h1 : inA i) (h2 : pastFirst i) (h3 : ¬inB i) (h4 : ¬inC i)
    (E : Set ℕ) (K : PUnit → sProp 𝕄) :
    iprop(heldA c M X σ.x2 σ.s
        ∗ (heldA c M X σ.x2 (k0_pay4 X.fs σ.x2 X.f1 X.f2 σ.s) -∗ K ⟨⟩))
      ⊢ wp frame (wpE (defs₀ (F := F)) Variants.none c none) E (body i M) K := by
  obtain ⟨a1, k1, a2, k2, a3, k3, a4, k4, a5, k5, a6, k6, a7, k7, a8, k8, a9, k9, a10, k10, a11, k11, a12, k12, a13, k13, a14, k14, a15, k15, a16, k16, a17, k17, a18, k18, a19, k19, a20, k20, a21, k21, a22, k22⟩ := M
  unfold body
  dsimp only
  simp only [cc0__fused_eq_skeleton, heldA, owns_pt]; unfold cc0__fused_skel
  iintro ⟨⟨H1, H2, H3, H7, H17, H18⟩, Hk⟩
  sl_exec (disch := first | sl_exact h0 | sl_exact h1 | sl_exact h2 | sl_exact h3 | sl_exact h4)
  sl_step
  iapply Hk
  isplitl [H1]; · iexact H1
  isplitl [H2]; · iexact H2
  isplitl [H3]; · iexact H3
  isplitl [H7]; · iexact H7
  isplitl [H17]; · iexact H17
  iapply (give c _ ?_) $$ H18; exact (View.read_writes_full _ _ _ _ _).trans (by congr <;> first | exact View.readAt_rep_full _ _ _ | exact (View.readCov_full (Val := Elt F) _ _ _ _ _).trans (congrArg _ (View.readAt_rep_full _ _ _)))

/-- The two right-hand sides of phase three, from the finished sums: the side's average feature vector scaled, over the
    label distances to the chosen label scaled. -/
def stack1 (X : Ins F) (s : Vec F S129x1024 .f32) : Vec F S164x1024 .f32 :=
  stack (k0_pay16 (k0_pay14 s)) (k0_pay17 X.d1 (k0_pay15 s X.w1 X.b1 X.u1))
def stack2 (X : Ins F) (s : Vec F S129x1024 .f32) : Vec F S164x1024 .f32 :=
  stack (k0_pay5 (k0_pay18 s (k0_pay13 s)))
    (k0_pay6 (iota .tc S100x1024 32 [0] iota_S100x1024_d0_w32) X.d2 (k0_pay19 s (k0_pay13 s) X.w2 X.b2 X.u2))

/-- Phase three's sums: at the first point, and at a later one from the sums before it. -/
def start1 (X : Ins F) (p : Vec F S164x1024 .f32) : Vec F S33x1024 .f32 := k0_pay8 (k0_pay20 X.ls X.f1 X.li1 p)
def start2 (X : Ins F) (p : Vec F S164x1024 .f32) : Vec F S33x1024 .f32 :=
  k0_pay9 X.ls (k0_pay21 X.f2 X.li2 p) (k0_pay22 X.f2)
def next1 (X : Ins F) (p : Vec F S164x1024 .f32) (y : Vec F S33x1024 .f32) : Vec F S33x1024 .f32 :=
  k0_pay10 (k0_pay20 X.ls X.f1 X.li1 p) y
def next2 (X : Ins F) (p : Vec F S164x1024 .f32) (y : Vec F S33x1024 .f32) : Vec F S33x1024 .f32 :=
  k0_pay11 X.ls (k0_pay21 X.f2 X.li2 p) (k0_pay22 X.f2) y

set_option maxHeartbeats 4000000 in
/-- The point between the phases: the two right-hand sides are stored. -/
theorem sound_B (c : Dev nD) (i : grid0.Coords) (M : Mems) (X : Ins F) (σ : Scr F) (o : Vec F S1024x32 .f32)
    (h0 : ¬isFirst i) (h1 : ¬inA i) (h3 : inB i) (h4 : ¬inC i)
    (E : Set ℕ) (K : PUnit → sProp 𝕄) :
    iprop(heldB c M X σ.s σ.p1 σ.p2
        ∗ (heldB c M X σ.s (stack1 X σ.s) (stack2 X σ.s) -∗ K ⟨⟩))
      ⊢ wp frame (wpE (defs₀ (F := F)) Variants.none c none) E (body i M) K := by
  obtain ⟨a1, k1, a2, k2, a3, k3, a4, k4, a5, k5, a6, k6, a7, k7, a8, k8, a9, k9, a10, k10, a11, k11, a12, k12, a13, k13, a14, k14, a15, k15, a16, k16, a17, k17, a18, k18, a19, k19, a20, k20, a21, k21, a22, k22⟩ := M
  unfold body
  dsimp only
  simp only [cc0__fused_eq_skeleton, heldB, owns_pt]; unfold cc0__fused_skel
  simp only [k0_part1_eq_skeleton, k0_part2_eq_skeleton]; unfold k0_part1_skel k0_part2_skel
  iintro ⟨⟨H8, H9, H10, H11, H12, H13, H14, H15, H18, H19, H20⟩, Hk⟩
  sl_exec (disch := first | sl_exact h0 | sl_exact h1 | sl_exact h3 | sl_exact h4)
  sl_step
  iapply Hk
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H18]; · iexact H18
  isplitl [H19]; · iapply (give c _ ?_) $$ H19; exact (read_stack _ _ _ _).trans (by dsimp only [stack1, stack2]; congr <;> exact View.readAt_rep_full _ _ _)
  iapply (give c _ ?_) $$ H20; exact (read_stack _ _ _ _).trans (by dsimp only [stack1, stack2]; congr <;> exact View.readAt_rep_full _ _ _)

set_option maxHeartbeats 4000000 in
/-- Phase three's first point: its sums start at the block's contribution. -/
theorem sound_startC (c : Dev nD) (i : grid0.Coords) (M : Mems) (X : Ins F) (σ : Scr F) (o : Vec F S1024x32 .f32)
    (h0 : ¬isFirst i) (h1 : ¬inA i) (h3 : ¬inB i) (h4 : inC i) (h5 : startC i) (h6 : ¬pastC i) (h7 : ¬isLast i)
    (E : Set ℕ) (K : PUnit → sProp 𝕄) :
    iprop(heldC c M X σ.p1 σ.p2 σ.y1 σ.y2 o
        ∗ (heldC c M X σ.p1 σ.p2 (start1 X σ.p1) (start2 X σ.p2) o -∗ K ⟨⟩))
      ⊢ wp frame (wpE (defs₀ (F := F)) Variants.none c none) E (body i M) K := by
  obtain ⟨a1, k1, a2, k2, a3, k3, a4, k4, a5, k5, a6, k6, a7, k7, a8, k8, a9, k9, a10, k10, a11, k11, a12, k12, a13, k13, a14, k14, a15, k15, a16, k16, a17, k17, a18, k18, a19, k19, a20, k20, a21, k21, a22, k22⟩ := M
  unfold body
  dsimp only
  simp only [cc0__fused_eq_skeleton, heldC, owns_pt]; unfold cc0__fused_skel
  simp only [k0_part3_eq_skeleton]; unfold k0_part3_skel
  iintro ⟨⟨H2, H3, H4, H5, H6, H16, H19, H20, H21, H22⟩, Hk⟩
  sl_exec (disch := first | sl_exact h0 | sl_exact h1 | sl_exact h3 | sl_exact h4 | sl_exact h5 | sl_exact h6 | sl_exact h7)
  sl_step
  iapply Hk
  isplitl [H2]; · iexact H2
  isplitl [H3]; · iexact H3
  isplitl [H4]; · iexact H4
  isplitl [H5]; · iexact H5
  isplitl [H6]; · iexact H6
  isplitl [H16]; · iexact H16
  isplitl [H19]; · iexact H19
  isplitl [H20]; · iexact H20
  isplitl [H21]; · iapply (give c _ ?_) $$ H21; refine (View.read_writes_full _ _ _ _ _).trans ?_; dsimp only [start1, start2, next1, next2]; congr <;> (first | exact View.readAt_rep_full _ _ _ | exact (View.readCov_full (Val := Elt F) _ _ _ _ _).trans (by dsimp only; congr <;> exact View.readAt_rep_full _ _ _))
  iapply (give c _ ?_) $$ H22; refine (View.read_writes_full _ _ _ _ _).trans ?_; dsimp only [start1, start2, next1, next2]; congr <;> (first | exact View.readAt_rep_full _ _ _ | exact (View.readCov_full (Val := Elt F) _ _ _ _ _).trans (by dsimp only; congr <;> exact View.readAt_rep_full _ _ _))

set_option maxHeartbeats 4000000 in
/-- Phase three, a point that is neither first nor last: its sums take the block's contribution. -/
theorem sound_accC (c : Dev nD) (i : grid0.Coords) (M : Mems) (X : Ins F) (σ : Scr F) (o : Vec F S1024x32 .f32)
    (h0 : ¬isFirst i) (h1 : ¬inA i) (h3 : ¬inB i) (h4 : inC i) (h5 : ¬startC i) (h6 : pastC i) (h7 : ¬isLast i)
    (E : Set ℕ) (K : PUnit → sProp 𝕄) :
    iprop(heldC c M X σ.p1 σ.p2 σ.y1 σ.y2 o
        ∗ (heldC c M X σ.p1 σ.p2 (next1 X σ.p1 σ.y1) (next2 X σ.p2 σ.y2) o -∗ K ⟨⟩))
      ⊢ wp frame (wpE (defs₀ (F := F)) Variants.none c none) E (body i M) K := by
  obtain ⟨a1, k1, a2, k2, a3, k3, a4, k4, a5, k5, a6, k6, a7, k7, a8, k8, a9, k9, a10, k10, a11, k11, a12, k12, a13, k13, a14, k14, a15, k15, a16, k16, a17, k17, a18, k18, a19, k19, a20, k20, a21, k21, a22, k22⟩ := M
  unfold body
  dsimp only
  simp only [cc0__fused_eq_skeleton, heldC, owns_pt]; unfold cc0__fused_skel
  simp only [k0_part3_eq_skeleton]; unfold k0_part3_skel
  iintro ⟨⟨H2, H3, H4, H5, H6, H16, H19, H20, H21, H22⟩, Hk⟩
  sl_exec (disch := first | sl_exact h0 | sl_exact h1 | sl_exact h3 | sl_exact h4 | sl_exact h5 | sl_exact h6 | sl_exact h7)
  sl_step
  iapply Hk
  isplitl [H2]; · iexact H2
  isplitl [H3]; · iexact H3
  isplitl [H4]; · iexact H4
  isplitl [H5]; · iexact H5
  isplitl [H6]; · iexact H6
  isplitl [H16]; · iexact H16
  isplitl [H19]; · iexact H19
  isplitl [H20]; · iexact H20
  isplitl [H21]; · iapply (give c _ ?_) $$ H21; refine (View.read_writes_full _ _ _ _ _).trans ?_; dsimp only [start1, start2, next1, next2]; congr <;> (first | exact View.readAt_rep_full _ _ _ | exact (View.readCov_full (Val := Elt F) _ _ _ _ _).trans (by dsimp only; congr <;> exact View.readAt_rep_full _ _ _))
  iapply (give c _ ?_) $$ H22; refine (View.read_writes_full _ _ _ _ _).trans ?_; dsimp only [start1, start2, next1, next2]; congr <;> (first | exact View.readAt_rep_full _ _ _ | exact (View.readCov_full (Val := Elt F) _ _ _ _ _).trans (by dsimp only; congr <;> exact View.readAt_rep_full _ _ _))

set_option maxHeartbeats 4000000 in
/-- The last point: its sums take the block's contribution, and the output is the average of the two quotients. -/
theorem sound_last (c : Dev nD) (i : grid0.Coords) (M : Mems) (X : Ins F) (σ : Scr F) (o : Vec F S1024x32 .f32)
    (h0 : ¬isFirst i) (h1 : ¬inA i) (h3 : ¬inB i) (h4 : inC i) (h5 : ¬startC i) (h6 : pastC i) (h7 : isLast i)
    (E : Set ℕ) (K : PUnit → sProp 𝕄) :
    iprop(heldC c M X σ.p1 σ.p2 σ.y1 σ.y2 o
        ∗ (heldC c M X σ.p1 σ.p2 (next1 X σ.p1 σ.y1) (next2 X σ.p2 σ.y2)
          (k0_pay12 (next1 X σ.p1 σ.y1) (next2 X σ.p2 σ.y2)) -∗ K ⟨⟩))
      ⊢ wp frame (wpE (defs₀ (F := F)) Variants.none c none) E (body i M) K := by
  obtain ⟨a1, k1, a2, k2, a3, k3, a4, k4, a5, k5, a6, k6, a7, k7, a8, k8, a9, k9, a10, k10, a11, k11, a12, k12, a13, k13, a14, k14, a15, k15, a16, k16, a17, k17, a18, k18, a19, k19, a20, k20, a21, k21, a22, k22⟩ := M
  unfold body
  dsimp only
  simp only [cc0__fused_eq_skeleton, heldC, owns_pt]; unfold cc0__fused_skel
  simp only [k0_part3_eq_skeleton]; unfold k0_part3_skel
  iintro ⟨⟨H2, H3, H4, H5, H6, H16, H19, H20, H21, H22⟩, Hk⟩
  sl_exec (disch := first | sl_exact h0 | sl_exact h1 | sl_exact h3 | sl_exact h4 | sl_exact h5 | sl_exact h6 | sl_exact h7)
  sl_step
  iapply Hk
  isplitl [H2]; · iexact H2
  isplitl [H3]; · iexact H3
  isplitl [H4]; · iexact H4
  isplitl [H5]; · iexact H5
  isplitl [H6]; · iexact H6
  isplitl [H16]; · iapply (give c _ ?_) $$ H16; refine (View.read_writes_full _ _ _ _ _).trans ?_; dsimp only [start1, start2, next1, next2]; congr <;> (first | exact View.readAt_rep_full _ _ _ | exact (View.readCov_full (Val := Elt F) _ _ _ _ _).trans (by dsimp only; congr <;> exact View.readAt_rep_full _ _ _))
  isplitl [H19]; · iexact H19
  isplitl [H20]; · iexact H20
  isplitl [H21]; · iapply (give c _ ?_) $$ H21; refine (View.read_writes_full _ _ _ _ _).trans ?_; dsimp only [start1, start2, next1, next2]; congr <;> (first | exact View.readAt_rep_full _ _ _ | exact (View.readCov_full (Val := Elt F) _ _ _ _ _).trans (by dsimp only; congr <;> exact View.readAt_rep_full _ _ _))
  iapply (give c _ ?_) $$ H22; refine (View.read_writes_full _ _ _ _ _).trans ?_; dsimp only [start1, start2, next1, next2]; congr <;> (first | exact View.readAt_rep_full _ _ _ | exact (View.readCov_full (Val := Elt F) _ _ _ _ _).trans (by dsimp only; congr <;> exact View.readAt_rep_full _ _ _))

end Cert.KernelIdeal.Body

end
-- ==== Proof.KernelStep.lean ====
/- The kernel's run: the six scratch arrays after each grid point as recursions over the input blocks, the body at every
   point, the launch, and what the arrays hold after it. -/
module

public import proofs.«01_k».proof.Proof.KernelBody

@[expose] public section

set_option maxRecDepth 16384

noncomputable section

namespace Cert.KernelIdeal.Run

open Cert.KernelIdeal Cert.KernelIdeal.Gen Cert.KernelIdeal.Body
open Idealize.ShloMosaic.Pipeline (Dat Cfg Window BodyObligation cellOf)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a grid point -/

theorem isFirst_iff : ∀ t : Fin cfg0.N, isFirst (grid0.coords t) ↔ t.val = 0 := (by decide +kernel : ∀ t : Fin grid0.N, isFirst (grid0.coords t) ↔ t.val = 0)
theorem inA_iff : ∀ t : Fin cfg0.N, inA (grid0.coords t) ↔ t.val < 10 := (by decide +kernel : ∀ t : Fin grid0.N, inA (grid0.coords t) ↔ t.val < 10)
theorem pastFirst_iff : ∀ t : Fin cfg0.N, pastFirst (grid0.coords t) ↔ t.val ≥ 1 := (by decide +kernel : ∀ t : Fin grid0.N, pastFirst (grid0.coords t) ↔ t.val ≥ 1)
theorem inB_iff : ∀ t : Fin cfg0.N, inB (grid0.coords t) ↔ t.val = 10 := (by decide +kernel : ∀ t : Fin grid0.N, inB (grid0.coords t) ↔ t.val = 10)
theorem inC_iff : ∀ t : Fin cfg0.N, inC (grid0.coords t) ↔ t.val ≥ 11 := (by decide +kernel : ∀ t : Fin grid0.N, inC (grid0.coords t) ↔ t.val ≥ 11)
theorem startC_iff : ∀ t : Fin cfg0.N, startC (grid0.coords t) ↔ t.val = 11 := (by decide +kernel : ∀ t : Fin grid0.N, startC (grid0.coords t) ↔ t.val = 11)
theorem pastC_iff : ∀ t : Fin cfg0.N, pastC (grid0.coords t) ↔ t.val ≥ 12 := (by decide +kernel : ∀ t : Fin grid0.N, pastC (grid0.coords t) ↔ t.val ≥ 12)
theorem isLast_iff : ∀ t : Fin cfg0.N, isLast (grid0.coords t) ↔ t.val = 20 := (by decide +kernel : ∀ t : Fin grid0.N, isLast (grid0.coords t) ↔ t.val = 20)

/-- The output's window is left alone at every point but the last, and not written back there. -/
theorem idle_out : ∀ t : Fin cfg0.N, t.val ≠ 20 → cfg0.idle 15 (grid0.coords t) = true :=
  (by decide +kernel : ∀ t : Fin grid0.N, t.val ≠ 20 → cfg0.idle 15 (grid0.coords t) = true)
theorem live_out : ∀ t : Fin cfg0.N, t.val = 20 → cfg0.idle 15 (grid0.coords t) = false :=
  (by decide +kernel : ∀ t : Fin grid0.N, t.val = 20 → cfg0.idle 15 (grid0.coords t) = false)
theorem noFlush_out : ∀ t : Fin cfg0.N, t.val ≠ 20 → (cfg0.win 15).flush t = false :=
  (by decide +kernel : ∀ t : Fin grid0.N, t.val ≠ 20 → (cfg0.win 15).flush t = false)

/-! ## The references and blocks of a point -/

/-- The references the body is called with at point `t`. -/
def memsAt (t : Fin cfg0.N) : Mems where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := win0_14.stage (cfg0.slots t 14)
  h15 := hstage0_14 ((cfg0.slots t 14).cast nbuf0_14)
  a16 := win0_15.stage (cfg0.slots t 15)
  h16 := hstage0_15 ((cfg0.slots t 15).cast nbuf0_15)
  a17 := Memref.whole cc0_scratch0
  h17 := Memref.isWhole_whole _
  a18 := Memref.whole cc0_scratch1
  h18 := Memref.isWhole_whole _
  a19 := Memref.whole cc0_scratch2
  h19 := Memref.isWhole_whole _
  a20 := Memref.whole cc0_scratch3
  h20 := Memref.isWhole_whole _
  a21 := Memref.whole cc0_scratch4
  h21 := Memref.isWhole_whole _
  a22 := Memref.whole cc0_scratch5
  h22 := Memref.isWhole_whole _

/-- The input blocks of point `t`. -/
def insAt (c : Dev nD) (t : Fin cfg0.N) : Ins F where
  fs := iblk m c 0 t
  f1 := iblk m c 1 t
  f2 := iblk m c 2 t
  ls := iblk m c 3 t
  li1 := iblk m c 4 t
  li2 := iblk m c 5 t
  x := iblk m c 6 t
  w1 := iblk m c 7 t
  w2 := iblk m c 8 t
  b1 := iblk m c 9 t
  b2 := iblk m c 10 t
  u1 := iblk m c 11 t
  u2 := iblk m c 12 t
  d1 := iblk m c 13 t
  d2 := iblk m c 14 t

/-- The input blocks of the point numbered `n`. -/
def blk (c : Dev nD) (n : ℕ) : Ins F := insAt m c ⟨n % 21, lt_of_lt_of_eq (Nat.mod_lt _ (by decide)) N_0.symm⟩

theorem insAt_eq (c : Dev nD) (t : Fin cfg0.N) : insAt m c t = blk m c t.val := by
  unfold blk
  congr 1
  exact Fin.ext (Nat.mod_eq_of_lt (lt_of_lt_of_eq t.isLt N_0)).symm

/-! ## The scratch arrays over the points -/

/-- The doubled queries, transposed. -/
def x2v (c : Dev nD) : Vec F S64x1024 .f32 := k0_pay1 (blk m c 0).x

/-- Phase one's sums after point `n`. -/
def sums (c : Dev nD) : ℕ → Vec F S129x1024 .f32
  | 0 => k0_pay3 (blk m c 0).fs (x2v m c) (blk m c 0).f1 (blk m c 0).f2
  | n + 1 => k0_pay4 (blk m c (n + 1)).fs (x2v m c) (blk m c (n + 1)).f1 (blk m c (n + 1)).f2 (sums c n)

/-- The two right-hand sides of phase three. -/
def rhs1 (c : Dev nD) : Vec F S164x1024 .f32 := stack1 (blk m c 10) (sums m c 9)
def rhs2 (c : Dev nD) : Vec F S164x1024 .f32 := stack2 (blk m c 10) (sums m c 9)

/-- Phase three's sums after its point `n`. -/
def acc1 (c : Dev nD) : ℕ → Vec F S33x1024 .f32
  | 0 => start1 (blk m c 11) (rhs1 m c)
  | n + 1 => next1 (blk m c (n + 12)) (rhs1 m c) (acc1 c n)
def acc2 (c : Dev nD) : ℕ → Vec F S33x1024 .f32
  | 0 => start2 (blk m c 11) (rhs2 m c)
  | n + 1 => next2 (blk m c (n + 12)) (rhs2 m c) (acc2 c n)

/-- The output the last point stores. -/
def outv (c : Dev nD) : Vec F S1024x32 .f32 := k0_pay12 (acc1 m c 9) (acc2 m c 9)

/-- What the scratch arrays hold before the point numbered `n`. -/
def Inv (c : Dev nD) (n : ℕ) (σ : Scr F) : Prop :=
  (1 ≤ n → σ.x2 = x2v m c ∧ σ.s = sums m c (min (n - 1) 9))
    ∧ (11 ≤ n → σ.p1 = rhs1 m c ∧ σ.p2 = rhs2 m c)
    ∧ (12 ≤ n → σ.y1 = acc1 m c (n - 12) ∧ σ.y2 = acc2 m c (n - 12))

/-- The input buffers hold the blocks `X`. -/
def held (c : Dev nD) (M : Mems) (X : Ins F) (o : Vec F S1024x32 .f32) (σ : Scr F) : sProp 𝕄 :=
  iprop(owns (c : Thread nD τ) M.a1 fullShare X.fs
    ∗ owns (c : Thread nD τ) M.a2 fullShare X.f1
    ∗ owns (c : Thread nD τ) M.a3 fullShare X.f2
    ∗ owns (c : Thread nD τ) M.a4 fullShare X.ls
    ∗ owns (c : Thread nD τ) M.a5 fullShare X.li1
    ∗ owns (c : Thread nD τ) M.a6 fullShare X.li2
    ∗ owns (c : Thread nD τ) M.a7 fullShare X.x
    ∗ owns (c : Thread nD τ) M.a8 fullShare X.w1
    ∗ owns (c : Thread nD τ) M.a9 fullShare X.w2
    ∗ owns (c : Thread nD τ) M.a10 fullShare X.b1
    ∗ owns (c : Thread nD τ) M.a11 fullShare X.b2
    ∗ owns (c : Thread nD τ) M.a12 fullShare X.u1
    ∗ owns (c : Thread nD τ) M.a13 fullShare X.u2
    ∗ owns (c : Thread nD τ) M.a14 fullShare X.d1
    ∗ owns (c : Thread nD τ) M.a15 fullShare X.d2
    ∗ owns (c : Thread nD τ) M.a16 fullShare o
    ∗ owns (c : Thread nD τ) M.a17 fullShare σ.x2
    ∗ owns (c : Thread nD τ) M.a18 fullShare σ.s
    ∗ owns (c : Thread nD τ) M.a19 fullShare σ.p1
    ∗ owns (c : Thread nD τ) M.a20 fullShare σ.p2
    ∗ owns (c : Thread nD τ) M.a21 fullShare σ.y1
    ∗ owns (c : Thread nD τ) M.a22 fullShare σ.y2)

/-- The body on all its buffers, where it touches only some of them. -/
theorem all_sound_first (c : Dev nD) (i : grid0.Coords) (M : Mems) (X : Ins F) (o : Vec F S1024x32 .f32) (σ : Scr F)
    (h0 : isFirst i) (h1 : inA i) (h2 : ¬pastFirst i) (h3 : ¬inB i) (h4 : ¬inC i)
    (E : Set ℕ) (K : PUnit → sProp 𝕄) :
    iprop(held c M X o σ ∗ (held c M X o { σ with x2 := k0_pay1 X.x, s := k0_pay3 X.fs (k0_pay1 X.x) X.f1 X.f2 } -∗ K ⟨⟩))
      ⊢ wp frame (wpE (defs₀ (F := F)) Variants.none c none) E (body i M) K := by
  unfold held
  iintro ⟨⟨H1, H2, H3, H4, H5, H6, H7, H8, H9, H10, H11, H12, H13, H14, H15, H16, H17, H18, H19, H20, H21, H22⟩, Hk⟩
  iapply (sound_first c i M X σ o h0 h1 h2 h3 h4 E K)
  unfold heldA
  isplitl [H1 H2 H3 H7 H17 H18]
  · iframe
  iintro ⟨H1, H2, H3, H7, H17, H18⟩
  iapply Hk
  iframe

/-- The body on all its buffers, where it touches only some of them. -/
theorem all_sound_acc (c : Dev nD) (i : grid0.Coords) (M : Mems) (X : Ins F) (o : Vec F S1024x32 .f32) (σ : Scr F)
    (h0 : ¬isFirst i) (h1 : inA i) (h2 : pastFirst i) (h3 : ¬inB i) (h4 : ¬inC i)
    (E : Set ℕ) (K : PUnit → sProp 𝕄) :
    iprop(held c M X o σ ∗ (held c M X o { σ with s := k0_pay4 X.fs σ.x2 X.f1 X.f2 σ.s } -∗ K ⟨⟩))
      ⊢ wp frame (wpE (defs₀ (F := F)) Variants.none c none) E (body i M) K := by
  unfold held
  iintro ⟨⟨H1, H2, H3, H4, H5, H6, H7, H8, H9, H10, H11, H12, H13, H14, H15, H16, H17, H18, H19, H20, H21, H22⟩, Hk⟩
  iapply (sound_acc c i M X σ o h0 h1 h2 h3 h4 E K)
  unfold heldA
  isplitl [H1 H2 H3 H7 H17 H18]
  · iframe
  iintro ⟨H1, H2, H3, H7, H17, H18⟩
  iapply Hk
  iframe

/-- The body on all its buffers, where it touches only some of them. -/
theorem all_sound_B (c : Dev nD) (i : grid0.Coords) (M : Mems) (X : Ins F) (o : Vec F S1024x32 .f32) (σ : Scr F)
    (h0 : ¬isFirst i) (h1 : ¬inA i) (h3 : inB i) (h4 : ¬inC i)
    (E : Set ℕ) (K : PUnit → sProp 𝕄) :
    iprop(held c M X o σ ∗ (held c M X o { σ with p1 := stack1 X σ.s, p2 := stack2 X σ.s } -∗ K ⟨⟩))
      ⊢ wp frame (wpE (defs₀ (F := F)) Variants.none c none) E (body i M) K := by
  unfold held
  iintro ⟨⟨H1, H2, H3, H4, H5, H6, H7, H8, H9, H10, H11, H12, H13, H14, H15, H16, H17, H18, H19, H20, H21, H22⟩, Hk⟩
  iapply (sound_B c i M X σ o h0 h1 h3 h4 E K)
  unfold heldB
  isplitl [H8 H9 H10 H11 H12 H13 H14 H15 H18 H19 H20]
  · iframe
  iintro ⟨H8, H9, H10, H11, H12, H13, H14, H15, H18, H19, H20⟩
  iapply Hk
  iframe

/-- The body on all its buffers, where it touches only some of them. -/
theorem all_sound_startC (c : Dev nD) (i : grid0.Coords) (M : Mems) (X : Ins F) (o : Vec F S1024x32 .f32) (σ : Scr F)
    (h0 : ¬isFirst i) (h1 : ¬inA i) (h3 : ¬inB i) (h4 : inC i) (h5 : startC i) (h6 : ¬pastC i) (h7 : ¬isLast i)
    (E : Set ℕ) (K : PUnit → sProp 𝕄) :
    iprop(held c M X o σ ∗ (held c M X o { σ with y1 := start1 X σ.p1, y2 := start2 X σ.p2 } -∗ K ⟨⟩))
      ⊢ wp frame (wpE (defs₀ (F := F)) Variants.none c none) E (body i M) K := by
  unfold held
  iintro ⟨⟨H1, H2, H3, H4, H5, H6, H7, H8, H9, H10, H11, H12, H13, H14, H15, H16, H17, H18, H19, H20, H21, H22⟩, Hk⟩
  iapply (sound_startC c i M X σ o h0 h1 h3 h4 h5 h6 h7 E K)
  unfold heldC
  isplitl [H2 H3 H4 H5 H6 H16 H19 H20 H21 H22]
  · iframe
  iintro ⟨H2, H3, H4, H5, H6, H16, H19, H20, H21, H22⟩
  iapply Hk
  iframe

/-- The body on all its buffers, where it touches only some of them. -/
theorem all_sound_accC (c : Dev nD) (i : grid0.Coords) (M : Mems) (X : Ins F) (o : Vec F S1024x32 .f32) (σ : Scr F)
    (h0 : ¬isFirst i) (h1 : ¬inA i) (h3 : ¬inB i) (h4 : inC i) (h5 : ¬startC i) (h6 : pastC i) (h7 : ¬isLast i)
    (E : Set ℕ) (K : PUnit → sProp 𝕄) :
    iprop(held c M X o σ ∗ (held c M X o { σ with y1 := next1 X σ.p1 σ.y1, y2 := next2 X σ.p2 σ.y2 } -∗ K ⟨⟩))
      ⊢ wp frame (wpE (defs₀ (F := F)) Variants.none c none) E (body i M) K := by
  unfold held
  iintro ⟨⟨H1, H2, H3, H4, H5, H6, H7, H8, H9, H10, H11, H12, H13, H14, H15, H16, H17, H18, H19, H20, H21, H22⟩, Hk⟩
  iapply (sound_accC c i M X σ o h0 h1 h3 h4 h5 h6 h7 E K)
  unfold heldC
  isplitl [H2 H3 H4 H5 H6 H16 H19 H20 H21 H22]
  · iframe
  iintro ⟨H2, H3, H4, H5, H6, H16, H19, H20, H21, H22⟩
  iapply Hk
  iframe

/-- The body on all its buffers, where it touches only some of them. -/
theorem all_sound_last (c : Dev nD) (i : grid0.Coords) (M : Mems) (X : Ins F) (o : Vec F S1024x32 .f32) (σ : Scr F)
    (h0 : ¬isFirst i) (h1 : ¬inA i) (h3 : ¬inB i) (h4 : inC i) (h5 : ¬startC i) (h6 : pastC i) (h7 : isLast i)
    (E : Set ℕ) (K : PUnit → sProp 𝕄) :
    iprop(held c M X o σ ∗ (held c M X (k0_pay12 (next1 X σ.p1 σ.y1) (next2 X σ.p2 σ.y2))
        { σ with y1 := next1 X σ.p1 σ.y1, y2 := next2 X σ.p2 σ.y2 } -∗ K ⟨⟩))
      ⊢ wp frame (wpE (defs₀ (F := F)) Variants.none c none) E (body i M) K := by
  unfold held
  iintro ⟨⟨H1, H2, H3, H4, H5, H6, H7, H8, H9, H10, H11, H12, H13, H14, H15, H16, H17, H18, H19, H20, H21, H22⟩, Hk⟩
  iapply (sound_last c i M X σ o h0 h1 h3 h4 h5 h6 h7 E K)
  unfold heldC
  isplitl [H2 H3 H4 H5 H6 H16 H19 H20 H21 H22]
  · iframe
  iintro ⟨H2, H3, H4, H5, H6, H16, H19, H20, H21, H22⟩
  iapply Hk
  iframe

/-- One grid point: from scratch arrays as the recursions have them before it to as they have them after it; the last
    point leaves the output. -/
theorem step (c : Dev nD) (t : Fin cfg0.N) (σ : Scr F) (o : Vec F S1024x32 .f32) (h : Inv m c t.val σ) :
    ∃ (σ' : Scr F) (o' : Vec F S1024x32 .f32), Inv m c (t.val + 1) σ' ∧ (t.val = 20 → o' = outv m c) ∧ (t.val ≠ 20 → o' = o)
      ∧ ∀ (E : Set ℕ) (K : PUnit → sProp 𝕄),
        iprop(held c (memsAt t) (insAt m c t) o σ ∗ (held c (memsAt t) (insAt m c t) o' σ' -∗ K ⟨⟩))
          ⊢ wp frame (wpE (defs₀ (F := F)) Variants.none c none) E (body (grid0.coords t) (memsAt t)) K := by
  have hN : t.val < 21 := lt_of_lt_of_eq t.isLt N_0
  obtain ⟨hA, hB, hC⟩ := h
  have e := insAt_eq m c t
  have c0 := isFirst_iff t
  have c1 := inA_iff t
  have c2 := pastFirst_iff t
  have c3 := inB_iff t
  have c4 := inC_iff t
  have c5 := startC_iff t
  have c6 := pastC_iff t
  have c7 := isLast_iff t
  have no : ∀ {P : Prop} {q : Prop}, (P ↔ q) → ¬q → ¬P := fun h n p => n (h.1 p)
  by_cases h0 : t.val = 0
  · refine ⟨_, _, ?_, by omega, fun _ => rfl, all_sound_first c _ _ _ o σ (c0.2 h0) (c1.2 (by omega)) (no c2 (by omega)) (no c3 (by omega)) (no c4 (by omega))⟩
    rw [e, h0]
    exact ⟨fun _ => ⟨rfl, rfl⟩, by omega, by omega⟩
  by_cases h1 : t.val < 10
  · obtain ⟨k, hk⟩ : ∃ k, t.val = k + 1 := ⟨t.val - 1, by omega⟩
    obtain ⟨hx, hs⟩ := hA (by omega)
    refine ⟨_, _, ?_, by omega, fun _ => rfl, all_sound_acc c _ _ _ o σ (no c0 h0) (c1.2 h1) (c2.2 (by omega)) (no c3 (by omega)) (no c4 (by omega))⟩
    rw [e]
    refine ⟨fun _ => ⟨hx, ?_⟩, by omega, by omega⟩
    rw [show min (t.val - 1) 9 = k by omega] at hs
    rw [show min (t.val + 1 - 1) 9 = k + 1 by omega, hk]
    show k0_pay4 _ _ _ _ _ = _
    rw [hx, hs]
    rfl
  by_cases h2 : t.val = 10
  · obtain ⟨hx, hs⟩ := hA (by omega)
    refine ⟨_, _, ?_, by omega, fun _ => rfl, all_sound_B c _ _ _ o σ (no c0 h0) (no c1 h1) (c3.2 h2) (no c4 (by omega))⟩
    rw [e]
    rw [h2] at hs ⊢
    refine ⟨fun _ => ⟨hx, hs⟩, fun _ => ⟨?_, ?_⟩, by omega⟩
    · show stack1 _ σ.s = _
      rw [hs]; rfl
    · show stack2 _ σ.s = _
      rw [hs]; rfl
  obtain ⟨hx, hs⟩ := hA (by omega)
  obtain ⟨hp1, hp2⟩ := hB (by omega)
  have hs' : σ.s = sums m c (min (t.val + 1 - 1) 9) := by rw [hs]; congr 1; omega
  by_cases h3 : t.val = 11
  · refine ⟨_, _, ?_, by omega, fun _ => rfl, all_sound_startC c _ _ _ o σ (no c0 h0) (no c1 h1) (no c3 h2) (c4.2 (by omega)) (c5.2 h3) (no c6 (by omega)) (no c7 (by omega))⟩
    rw [e]
    refine ⟨fun _ => ⟨hx, hs'⟩, fun _ => ⟨hp1, hp2⟩, fun _ => ?_⟩
    rw [h3]
    refine ⟨?_, ?_⟩
    · show start1 _ σ.p1 = _
      rw [hp1]; rfl
    · show start2 _ σ.p2 = _
      rw [hp2]; rfl
  obtain ⟨hy1, hy2⟩ := hC (by omega)
  obtain ⟨k, hk⟩ : ∃ k, t.val = k + 12 := ⟨t.val - 12, by omega⟩
  have y1' : next1 (insAt m c t) σ.p1 σ.y1 = acc1 m c (t.val + 1 - 12) := by
    rw [e, hp1, hy1, hk, show k + 12 - 12 = k by omega, show k + 12 + 1 - 12 = k + 1 by omega]; rfl
  have y2' : next2 (insAt m c t) σ.p2 σ.y2 = acc2 m c (t.val + 1 - 12) := by
    rw [e, hp2, hy2, hk, show k + 12 - 12 = k by omega, show k + 12 + 1 - 12 = k + 1 by omega]; rfl
  by_cases h4 : t.val = 20
  · refine ⟨_, _, ?_, fun _ => ?_, fun h => absurd h4 h, all_sound_last c _ _ _ o σ (no c0 h0) (no c1 h1) (no c3 h2) (c4.2 (by omega)) (no c5 h3) (c6.2 (by omega)) (c7.2 h4)⟩
    · exact ⟨fun _ => ⟨hx, hs'⟩, fun _ => ⟨hp1, hp2⟩, fun _ => ⟨y1', y2'⟩⟩
    · rw [y1', y2', h4]; rfl
  · refine ⟨_, _, ?_, fun h => absurd h h4, fun _ => rfl, all_sound_accC c _ _ _ o σ (no c0 h0) (no c1 h1) (no c3 h2) (c4.2 (by omega)) (no c5 h3) (c6.2 (by omega)) (no c7 h4)⟩
    exact ⟨fun _ => ⟨hx, hs'⟩, fun _ => ⟨hp1, hp2⟩, fun _ => ⟨y1', y2'⟩⟩

end Cert.KernelIdeal.Run

end
-- ==== Proof.KernelRun.lean ====
/- The launch: the pipeline's proof data, the body at every point, and the run — every weakly fair execution ends with the
   output array at what the recursions say and every argument as it was. -/
module

public import proofs.«01_k».proof.Proof.KernelStep
public import Idealize.ShloMosaic.Lib.Pipeline.FrameBody
public import Idealize.ShloMosaic.Lib.Claim

@[expose] public section

set_option maxRecDepth 16384

noncomputable section

namespace Cert.KernelIdeal.Run

open Cert.KernelIdeal Cert.KernelIdeal.Gen Cert.KernelIdeal.Body
open Idealize.ShloMosaic.Pipeline (Dat Cfg Window BodyObligation cellOf)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the point numbered `n`: the scratch arrays as the recursions have them, the generator register at some state. -/
def Phi (c : Dev nD) (n : ℕ) : sProp 𝕄 :=
  iprop(∃ σ : Scr F, ⌜Inv m c n σ⌝ ∗ (owns (c : Thread nD τ) (Memref.whole cc0_scratch0) fullShare σ.x2 ∗ owns (c : Thread nD τ) (Memref.whole cc0_scratch1) fullShare σ.s ∗ owns (c : Thread nD τ) (Memref.whole cc0_scratch2) fullShare σ.p1 ∗ owns (c : Thread nD τ) (Memref.whole cc0_scratch3) fullShare σ.p2 ∗ owns (c : Thread nD τ) (Memref.whole cc0_scratch4) fullShare σ.y1 ∗ owns (c : Thread nD τ) (Memref.whole cc0_scratch5) fullShare σ.y2) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outv m c
    | ⟨_ + 16, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = Phi m c t.val := by
  dsimp only [dats]; rfl

/-- Each input's buffer holds its block before the body, -/
theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d
theorem before_6 (c : Dev nD) (t : Fin cfg0.N) (d) : (dats m 0 c).before 6 t d = iblk m c 6 t :=
  before0_6_of m (dats m 0 c) (A_eq m c 6) (fun t => by dsimp only [dats]) t d
theorem before_7 (c : Dev nD) (t : Fin cfg0.N) (d) : (dats m 0 c).before 7 t d = iblk m c 7 t :=
  before0_7_of m (dats m 0 c) (A_eq m c 7) (fun t => by dsimp only [dats]) t d
theorem before_8 (c : Dev nD) (t : Fin cfg0.N) (d) : (dats m 0 c).before 8 t d = iblk m c 8 t :=
  before0_8_of m (dats m 0 c) (A_eq m c 8) (fun t => by dsimp only [dats]) t d
theorem before_9 (c : Dev nD) (t : Fin cfg0.N) (d) : (dats m 0 c).before 9 t d = iblk m c 9 t :=
  before0_9_of m (dats m 0 c) (A_eq m c 9) (fun t => by dsimp only [dats]) t d
theorem before_10 (c : Dev nD) (t : Fin cfg0.N) (d) : (dats m 0 c).before 10 t d = iblk m c 10 t :=
  before0_10_of m (dats m 0 c) (A_eq m c 10) (fun t => by dsimp only [dats]) t d
theorem before_11 (c : Dev nD) (t : Fin cfg0.N) (d) : (dats m 0 c).before 11 t d = iblk m c 11 t :=
  before0_11_of m (dats m 0 c) (A_eq m c 11) (fun t => by dsimp only [dats]) t d
theorem before_12 (c : Dev nD) (t : Fin cfg0.N) (d) : (dats m 0 c).before 12 t d = iblk m c 12 t :=
  before0_12_of m (dats m 0 c) (A_eq m c 12) (fun t => by dsimp only [dats]) t d
theorem before_13 (c : Dev nD) (t : Fin cfg0.N) (d) : (dats m 0 c).before 13 t d = iblk m c 13 t :=
  before0_13_of m (dats m 0 c) (A_eq m c 13) (fun t => by dsimp only [dats]) t d
theorem before_14 (c : Dev nD) (t : Fin cfg0.N) (d) : (dats m 0 c).before 14 t d = iblk m c 14 t :=
  before0_14_of m (dats m 0 c) (A_eq m c 14) (fun t => by dsimp only [dats]) t d

/-- and after it. -/
theorem leaves_0 (c : Dev nD) (t : Fin cfg0.N) :
    (dats m 0 c).leavesExact 0 t = owns (c : Thread nD τ) (memsAt t).a1 fullShare (insAt m c t).fs := by
  unfold Dat.leavesExact; rw [show cfg0.idle 0 (grid0.coords t) = false from rfl]; dsimp only [dats]; rfl
theorem leaves_1 (c : Dev nD) (t : Fin cfg0.N) :
    (dats m 0 c).leavesExact 1 t = owns (c : Thread nD τ) (memsAt t).a2 fullShare (insAt m c t).f1 := by
  unfold Dat.leavesExact; rw [show cfg0.idle 1 (grid0.coords t) = false from rfl]; dsimp only [dats]; rfl
theorem leaves_2 (c : Dev nD) (t : Fin cfg0.N) :
    (dats m 0 c).leavesExact 2 t = owns (c : Thread nD τ) (memsAt t).a3 fullShare (insAt m c t).f2 := by
  unfold Dat.leavesExact; rw [show cfg0.idle 2 (grid0.coords t) = false from rfl]; dsimp only [dats]; rfl
theorem leaves_3 (c : Dev nD) (t : Fin cfg0.N) :
    (dats m 0 c).leavesExact 3 t = owns (c : Thread nD τ) (memsAt t).a4 fullShare (insAt m c t).ls := by
  unfold Dat.leavesExact; rw [show cfg0.idle 3 (grid0.coords t) = false from rfl]; dsimp only [dats]; rfl
theorem leaves_4 (c : Dev nD) (t : Fin cfg0.N) :
    (dats m 0 c).leavesExact 4 t = owns (c : Thread nD τ) (memsAt t).a5 fullShare (insAt m c t).li1 := by
  unfold Dat.leavesExact; rw [show cfg0.idle 4 (grid0.coords t) = false from rfl]; dsimp only [dats]; rfl
theorem leaves_5 (c : Dev nD) (t : Fin cfg0.N) :
    (dats m 0 c).leavesExact 5 t = owns (c : Thread nD τ) (memsAt t).a6 fullShare (insAt m c t).li2 := by
  unfold Dat.leavesExact; rw [show cfg0.idle 5 (grid0.coords t) = false from rfl]; dsimp only [dats]; rfl
theorem leaves_6 (c : Dev nD) (t : Fin cfg0.N) :
    (dats m 0 c).leavesExact 6 t = owns (c : Thread nD τ) (memsAt t).a7 fullShare (insAt m c t).x := by
  unfold Dat.leavesExact; rw [show cfg0.idle 6 (grid0.coords t) = false from rfl]; dsimp only [dats]; rfl
theorem leaves_7 (c : Dev nD) (t : Fin cfg0.N) :
    (dats m 0 c).leavesExact 7 t = owns (c : Thread nD τ) (memsAt t).a8 fullShare (insAt m c t).w1 := by
  unfold Dat.leavesExact; rw [show cfg0.idle 7 (grid0.coords t) = false from rfl]; dsimp only [dats]; rfl
theorem leaves_8 (c : Dev nD) (t : Fin cfg0.N) :
    (dats m 0 c).leavesExact 8 t = owns (c : Thread nD τ) (memsAt t).a9 fullShare (insAt m c t).w2 := by
  unfold Dat.leavesExact; rw [show cfg0.idle 8 (grid0.coords t) = false from rfl]; dsimp only [dats]; rfl
theorem leaves_9 (c : Dev nD) (t : Fin cfg0.N) :
    (dats m 0 c).leavesExact 9 t = owns (c : Thread nD τ) (memsAt t).a10 fullShare (insAt m c t).b1 := by
  unfold Dat.leavesExact; rw [show cfg0.idle 9 (grid0.coords t) = false from rfl]; dsimp only [dats]; rfl
theorem leaves_10 (c : Dev nD) (t : Fin cfg0.N) :
    (dats m 0 c).leavesExact 10 t = owns (c : Thread nD τ) (memsAt t).a11 fullShare (insAt m c t).b2 := by
  unfold Dat.leavesExact; rw [show cfg0.idle 10 (grid0.coords t) = false from rfl]; dsimp only [dats]; rfl
theorem leaves_11 (c : Dev nD) (t : Fin cfg0.N) :
    (dats m 0 c).leavesExact 11 t = owns (c : Thread nD τ) (memsAt t).a12 fullShare (insAt m c t).u1 := by
  unfold Dat.leavesExact; rw [show cfg0.idle 11 (grid0.coords t) = false from rfl]; dsimp only [dats]; rfl
theorem leaves_12 (c : Dev nD) (t : Fin cfg0.N) :
    (dats m 0 c).leavesExact 12 t = owns (c : Thread nD τ) (memsAt t).a13 fullShare (insAt m c t).u2 := by
  unfold Dat.leavesExact; rw [show cfg0.idle 12 (grid0.coords t) = false from rfl]; dsimp only [dats]; rfl
theorem leaves_13 (c : Dev nD) (t : Fin cfg0.N) :
    (dats m 0 c).leavesExact 13 t = owns (c : Thread nD τ) (memsAt t).a14 fullShare (insAt m c t).d1 := by
  unfold Dat.leavesExact; rw [show cfg0.idle 13 (grid0.coords t) = false from rfl]; dsimp only [dats]; rfl
theorem leaves_14 (c : Dev nD) (t : Fin cfg0.N) :
    (dats m 0 c).leavesExact 14 t = owns (c : Thread nD τ) (memsAt t).a15 fullShare (insAt m c t).d2 := by
  unfold Dat.leavesExact; rw [show cfg0.idle 14 (grid0.coords t) = false from rfl]; dsimp only [dats]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

/-- The output's buffer after the body: at the output after the last point, at anything before. -/
theorem leaves_out (c : Dev nD) (t : Fin cfg0.N) (d) (o : Vec F S1024x32 .f32)
    (h : t.val = 20 → o = outv m c) (h' : t.val ≠ 20 → o = (dats m 0 c).before 15 t d) :
    (owns (c : Thread nD τ) (memsAt t).a16 fullShare o : sProp 𝕄) ⊢ (dats m 0 c).leavesExact 15 t := by
  by_cases ht : t.val = 20
  · unfold Dat.leavesExact; rw [live_out t ht, h ht]; dsimp only [dats]; exact Entails.refl _
  · rw [Dat.leavesExact_idle (dats m 0 c) 15 t (idle_out t ht) (noFlush_out t ht), h' ht]
    iintro H
    iexists _
    iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10, before_11, before_12, before_13, before_14, leaves_0, leaves_1, leaves_2, leaves_3, leaves_4, leaves_5, leaves_6, leaves_7, leaves_8, leaves_9, leaves_10, leaves_11, leaves_12, leaves_13, leaves_14]
  rw [show (dats m 0 c).owesAt () t.succ = (dats m 0 c).owesAt () t.castSucc from rfl]
  rw [show (dats m 0 c).Φ t.succ = Phi m c (t.val + 1) from rfl, Phi_castSucc]
  unfold Phi
  iintro ⟨⟨%σ, %hσ, ⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  obtain ⟨σ', o', hσ', ho', hn', hwp⟩ := step m c t σ ((dats m 0 c).before 15 t d15) hσ
  iapply (hwp Set.univ _)
  isplitl [H0 H1 H2 H3 H4 H5 H6 H7 H8 H9 H10 H11 H12 H13 H14 H15 S0 S1 S2 S3 S4 S5]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [S0]; · iexact S0
    isplitl [S1]; · iexact S1
    isplitl [S2]; · iexact S2
    isplitl [S3]; · iexact S3
    isplitl [S4]; · iexact S4
    iexact S5
  unfold held
  iintro ⟨H0, H1, H2, H3, H4, H5, H6, H7, H8, H9, H10, H11, H12, H13, H14, H15, S0, S1, S2, S3, S4, S5⟩
  isplitl [S0 S1 S2 S3 S4 S5 Hg]
  · iexists σ'
    isplitr
    · ipureintro; exact hσ'
    isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iapply (leaves_out m c t d15 o' ho' hn') $$ H15

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region's scratch at its start: every scratch array at anything, the generator register at some state. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

theorem hin (c : Dev nD) : Pipeline.ΦA spec0 c ⊢ (dats m 0 c).Φ 0 := by
  rw [show (dats m 0 c).Φ 0 = Phi m c 0 from rfl, scratch_eq]
  unfold Phi
  iintro ⟨⟨⟨%d0, S0⟩, ⟨%d1, S1⟩, ⟨%d2, S2⟩, ⟨%d3, S3⟩, ⟨%d4, S4⟩, ⟨%d5, S5⟩⟩, Hg⟩
  iexists (⟨d0, d1, d2, d3, d4, d5⟩ : Scr F)
  isplitr
  · ipureintro; exact ⟨by omega, by omega, by omega⟩
  iframe

theorem hout (c : Dev nD) : (dats m 0 c).Φ (Fin.last cfg0.N) ⊢ Pipeline.ΦA spec0 c := by
  rw [show (dats m 0 c).Φ (Fin.last cfg0.N) = Phi m c (Fin.last cfg0.N).val from rfl, scratch_eq]
  unfold Phi
  iintro ⟨%σ, %hσ, ⟨S0, S1, S2, S3, S4, S5⟩, Hg⟩
  isplitl [S0 S1 S2 S3 S4 S5]
  · isplitl [S0]
    · iexists _; iexact S0
    isplitl [S1]
    · iexists _; iexact S1
    isplitl [S2]
    · iexists _; iexact S2
    isplitl [S3]
    · iexists _; iexact S3
    isplitl [S4]
    · iexists _; iexact S4
    iexists _; iexact S5
  iexact Hg

set_option backward.isDefEq.respectTransparency.types false in
/-- Every weakly fair execution of @main ends, with the arrays at what the proof data say and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiet m ρ)

/-- The arguments end as they were and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (dats m) (A_eq m) (run m ρ)) ((θ_run defs _ _).mono (fun _ h => h.2) (run_quiet m ρ))

end Cert.KernelIdeal.Run

end
-- ==== Proof.RefOps.lean ====
module

public import proofs.«01_k».proof.Proof.Gen.ReferenceIdeal
public import Idealize.ShloMosaic.Lib.StableHlo.Run
public import Idealize.ShloMosaic.Lib.Pipeline.Frame

/-! The reference program as a list of operations, cut into the stages of the computation: the two
    transports, the two images, the two nearest labels, the two targets and the average. -/

@[expose] public section

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

/-- An array of a shape and an element type. -/
abbrev Arr (F : FTy → Type) (S : Shape) (e : EltTy) : Type := (⟨S, e⟩ : BufTy).Contents (Elt F)

variable {F : FTy → Type} [FloatOps F]

/-- The operations of the transport of the queries by the first side. -/
abbrev transport1 : List (HloOp τ sig (Elt F)) :=
  [ binary main_arg1 main_arg1 main_v0 (mulf : Arr F S20000x64 .f32 → Arr F S20000x64 .f32 → Arr F S20000x64 .f32),
    nullary main_cst (constant S_ .f32 0x00000000#32),
    binary main_v0 main_cst main_v1 ((fun x v => Host.reduceAdd x v reducesTo_S20000x64_S20000_d1 h_S_) : Arr F S20000x64 .f32 → Arr F S_ .f32 → Arr F S20000 .f32),
    unary main_v1 main_v2 (broadcastInDim S20000x1 ![0] bcast_S20000_S20000x1_0 : Arr F S20000 .f32 → Arr F S20000x1 .f32),
    binary main_arg0 main_arg0 main_v3 (mulf : Arr F S1024x64 .f32 → Arr F S1024x64 .f32 → Arr F S1024x64 .f32),
    nullary main_cst_0 (constant S_ .f32 0x00000000#32),
    binary main_v3 main_cst_0 main_v4 ((fun x v => Host.reduceAdd x v reducesTo_S1024x64_S1024_d1 h_S_) : Arr F S1024x64 .f32 → Arr F S_ .f32 → Arr F S1024 .f32),
    unary main_v4 main_v5 (broadcastInDim S1x1024 ![1] bcast_S1024_S1x1024_1 : Arr F S1024 .f32 → Arr F S1x1024 .f32),
    unary main_v2 main_v6 (broadcastInDim S20000x1024 ![0, 1] bcast_S20000x1_S20000x1024_0_1 : Arr F S20000x1 .f32 → Arr F S20000x1024 .f32),
    unary main_v5 main_v7 (broadcastInDim S20000x1024 ![0, 1] bcast_S1x1024_S20000x1024_0_1 : Arr F S1x1024 .f32 → Arr F S20000x1024 .f32),
    binary main_v6 main_v7 main_v8 (addf : Arr F S20000x1024 .f32 → Arr F S20000x1024 .f32 → Arr F S20000x1024 .f32),
    unary main_arg0 main_v9 ((transpose S64x1024 [1, 0] · transposes_S1024x64_S64x1024_1_0) : Arr F S1024x64 .f32 → Arr F S64x1024 .f32),
    binary main_arg1 main_v9 main_v10 ((fun l r => Host.dotGeneral dot_S20000x64_S64x1024_S20000x1024_1_0_0_1_n_n none l r) : Arr F S20000x64 .f32 → Arr F S64x1024 .f32 → Arr F S20000x1024 .f32),
    nullary main_cst_1 (constant S_ .f32 0x40000000#32),
    unary main_cst_1 main_v11 (broadcastInDim S20000x1024 ![] bcast_S_S20000x1024 : Arr F S_ .f32 → Arr F S20000x1024 .f32),
    binary main_v11 main_v10 main_v12 (mulf : Arr F S20000x1024 .f32 → Arr F S20000x1024 .f32 → Arr F S20000x1024 .f32),
    binary main_v8 main_v12 main_v13 (subf : Arr F S20000x1024 .f32 → Arr F S20000x1024 .f32 → Arr F S20000x1024 .f32),
    nullary main_cst_2 (constant S_ .f32 0x00000000#32),
    TRef.unary (.of main_cst_2 : TRef sig ⟨S_, .f32⟩) (.of main_call0_v0 : TRef sig ⟨S_, .f32⟩) id,
    TRef.unary (.of main_call0_v0 : TRef sig ⟨S_, .f32⟩) (.of main_call0_v1 : TRef sig ⟨S20000x1024, .f32⟩) (broadcastInDim S20000x1024 ![] bcast_S_S20000x1024),
    TRef.binary (.of main_call0_v1 : TRef sig ⟨S20000x1024, .f32⟩) (.of main_v13 : TRef sig ⟨S20000x1024, .f32⟩) (.of main_v14 : TRef sig ⟨S20000x1024, .f32⟩) maximumf,
    unary main_v14 main_v15 (Host.sqrt : Arr F S20000x1024 .f32 → Arr F S20000x1024 .f32),
    binary main_v15 main_v15 main_v16 (mulf : Arr F S20000x1024 .f32 → Arr F S20000x1024 .f32 → Arr F S20000x1024 .f32),
    unary main_v16 main_v17 (Host.negf : Arr F S20000x1024 .f32 → Arr F S20000x1024 .f32),
    unary main_v17 main_v18 (Host.exp : Arr F S20000x1024 .f32 → Arr F S20000x1024 .f32),
    unary main_arg3 main_v19 ((transpose S64x20000 [1, 0] · transposes_S20000x64_S64x20000_1_0) : Arr F S20000x64 .f32 → Arr F S64x20000 .f32),
    binary main_v19 main_v18 main_v20 ((fun l r => Host.dotGeneral dot_S64x20000_S20000x1024_S64x1024_1_0_0_1_n_n none l r) : Arr F S64x20000 .f32 → Arr F S20000x1024 .f32 → Arr F S64x1024 .f32),
    nullary main_cst_3 (constant S_ .f32 0x00000000#32),
    binary main_v18 main_cst_3 main_v21 ((fun x v => Host.reduceAdd x v reducesTo_S20000x1024_S1024_d0 h_S_) : Arr F S20000x1024 .f32 → Arr F S_ .f32 → Arr F S1024 .f32),
    unary main_v21 main_v22 (broadcastInDim S1x1024 ![1] bcast_S1024_S1x1024_1 : Arr F S1024 .f32 → Arr F S1x1024 .f32),
    unary main_v22 main_v23 (broadcastInDim S64x1024 ![0, 1] bcast_S1x1024_S64x1024_0_1 : Arr F S1x1024 .f32 → Arr F S64x1024 .f32),
    binary main_v20 main_v23 main_v24 (Host.divf : Arr F S64x1024 .f32 → Arr F S64x1024 .f32 → Arr F S64x1024 .f32),
    unary main_v24 main_v25 ((transpose S1024x64 [1, 0] · transposes_S64x1024_S1024x64_1_0) : Arr F S64x1024 .f32 → Arr F S1024x64 .f32) ]

/-- The buffers those operations write. -/
abbrev transport1_W : List (Ref sig .tc) :=
  [main_v0, main_cst, main_v1, main_v2, main_v3, main_cst_0, main_v4, main_v5, main_v6, main_v7, main_v8,
   main_v9, main_v10, main_cst_1, main_v11, main_v12, main_v13, main_cst_2, main_call0_v0, main_call0_v1,
   main_v14, main_v15, main_v16, main_v17, main_v18, main_v19, main_v20, main_cst_3, main_v21, main_v22,
   main_v23, main_v24, main_v25]

/-- The operations of the transport by the second side, up to the broadcast of the column sums. -/
abbrev transport2a : List (HloOp τ sig (Elt F)) :=
  [ binary main_arg1 main_arg1 main_v26 (mulf : Arr F S20000x64 .f32 → Arr F S20000x64 .f32 → Arr F S20000x64 .f32),
    nullary main_cst_4 (constant S_ .f32 0x00000000#32),
    binary main_v26 main_cst_4 main_v27 ((fun x v => Host.reduceAdd x v reducesTo_S20000x64_S20000_d1 h_S_) : Arr F S20000x64 .f32 → Arr F S_ .f32 → Arr F S20000 .f32),
    unary main_v27 main_v28 (broadcastInDim S20000x1 ![0] bcast_S20000_S20000x1_0 : Arr F S20000 .f32 → Arr F S20000x1 .f32),
    binary main_arg0 main_arg0 main_v29 (mulf : Arr F S1024x64 .f32 → Arr F S1024x64 .f32 → Arr F S1024x64 .f32),
    nullary main_cst_5 (constant S_ .f32 0x00000000#32),
    binary main_v29 main_cst_5 main_v30 ((fun x v => Host.reduceAdd x v reducesTo_S1024x64_S1024_d1 h_S_) : Arr F S1024x64 .f32 → Arr F S_ .f32 → Arr F S1024 .f32),
    unary main_v30 main_v31 (broadcastInDim S1x1024 ![1] bcast_S1024_S1x1024_1 : Arr F S1024 .f32 → Arr F S1x1024 .f32),
    unary main_v28 main_v32 (broadcastInDim S20000x1024 ![0, 1] bcast_S20000x1_S20000x1024_0_1 : Arr F S20000x1 .f32 → Arr F S20000x1024 .f32),
    unary main_v31 main_v33 (broadcastInDim S20000x1024 ![0, 1] bcast_S1x1024_S20000x1024_0_1 : Arr F S1x1024 .f32 → Arr F S20000x1024 .f32),
    binary main_v32 main_v33 main_v34 (addf : Arr F S20000x1024 .f32 → Arr F S20000x1024 .f32 → Arr F S20000x1024 .f32),
    unary main_arg0 main_v35 ((transpose S64x1024 [1, 0] · transposes_S1024x64_S64x1024_1_0) : Arr F S1024x64 .f32 → Arr F S64x1024 .f32),
    binary main_arg1 main_v35 main_v36 ((fun l r => Host.dotGeneral dot_S20000x64_S64x1024_S20000x1024_1_0_0_1_n_n none l r) : Arr F S20000x64 .f32 → Arr F S64x1024 .f32 → Arr F S20000x1024 .f32),
    nullary main_cst_6 (constant S_ .f32 0x40000000#32),
    unary main_cst_6 main_v37 (broadcastInDim S20000x1024 ![] bcast_S_S20000x1024 : Arr F S_ .f32 → Arr F S20000x1024 .f32),
    binary main_v37 main_v36 main_v38 (mulf : Arr F S20000x1024 .f32 → Arr F S20000x1024 .f32 → Arr F S20000x1024 .f32),
    binary main_v34 main_v38 main_v39 (subf : Arr F S20000x1024 .f32 → Arr F S20000x1024 .f32 → Arr F S20000x1024 .f32),
    nullary main_cst_7 (constant S_ .f32 0x00000000#32),
    TRef.unary (.of main_cst_7 : TRef sig ⟨S_, .f32⟩) (.of main_call1_v0 : TRef sig ⟨S_, .f32⟩) id,
    TRef.unary (.of main_call1_v0 : TRef sig ⟨S_, .f32⟩) (.of main_call1_v1 : TRef sig ⟨S20000x1024, .f32⟩) (broadcastInDim S20000x1024 ![] bcast_S_S20000x1024),
    TRef.binary (.of main_call1_v1 : TRef sig ⟨S20000x1024, .f32⟩) (.of main_v39 : TRef sig ⟨S20000x1024, .f32⟩) (.of main_v40 : TRef sig ⟨S20000x1024, .f32⟩) maximumf,
    unary main_v40 main_v41 (Host.sqrt : Arr F S20000x1024 .f32 → Arr F S20000x1024 .f32),
    binary main_v41 main_v41 main_v42 (mulf : Arr F S20000x1024 .f32 → Arr F S20000x1024 .f32 → Arr F S20000x1024 .f32),
    unary main_v42 main_v43 (Host.negf : Arr F S20000x1024 .f32 → Arr F S20000x1024 .f32),
    unary main_v43 main_v44 (Host.exp : Arr F S20000x1024 .f32 → Arr F S20000x1024 .f32),
    unary main_arg4 main_v45 ((transpose S64x20000 [1, 0] · transposes_S20000x64_S64x20000_1_0) : Arr F S20000x64 .f32 → Arr F S64x20000 .f32),
    binary main_v45 main_v44 main_v46 ((fun l r => Host.dotGeneral dot_S64x20000_S20000x1024_S64x1024_1_0_0_1_n_n none l r) : Arr F S64x20000 .f32 → Arr F S20000x1024 .f32 → Arr F S64x1024 .f32),
    nullary main_cst_8 (constant S_ .f32 0x00000000#32),
    binary main_v44 main_cst_8 main_v47 ((fun x v => Host.reduceAdd x v reducesTo_S20000x1024_S1024_d0 h_S_) : Arr F S20000x1024 .f32 → Arr F S_ .f32 → Arr F S1024 .f32),
    unary main_v47 main_v48 (broadcastInDim S1x1024 ![1] bcast_S1024_S1x1024_1 : Arr F S1024 .f32 → Arr F S1x1024 .f32),
    unary main_v48 main_v49 (broadcastInDim S64x1024 ![0, 1] bcast_S1x1024_S64x1024_0_1 : Arr F S1x1024 .f32 → Arr F S64x1024 .f32) ]

/-- The buffers those operations write. -/
abbrev transport2a_W : List (Ref sig .tc) :=
  [main_v26, main_cst_4, main_v27, main_v28, main_v29, main_cst_5, main_v30, main_v31, main_v32, main_v33,
   main_v34, main_v35, main_v36, main_cst_6, main_v37, main_v38, main_v39, main_cst_7, main_call1_v0,
   main_call1_v1, main_v40, main_v41, main_v42, main_v43, main_v44, main_v45, main_v46, main_cst_8,
   main_v47, main_v48, main_v49]

/-- The operations of the rest of the transport by the second side. -/
abbrev transport2b : List (HloOp τ sig (Elt F)) :=
  [ binary main_v46 main_v49 main_v50 (Host.divf : Arr F S64x1024 .f32 → Arr F S64x1024 .f32 → Arr F S64x1024 .f32),
    unary main_v50 main_v51 ((transpose S1024x64 [1, 0] · transposes_S64x1024_S1024x64_1_0) : Arr F S64x1024 .f32 → Arr F S1024x64 .f32) ]

/-- The buffers those operations write. -/
abbrev transport2b_W : List (Ref sig .tc) :=
  [main_v50, main_v51]

/-- The operations of the images of both transports. -/
abbrev images : List (HloOp τ sig (Elt F)) :=
  [ binary main_v25 main_arg11 main_v52 ((fun l r => Host.dotGeneral dot_S1024x64_S64x32_S1024x32_1_0_0_1_n_n none l r) : Arr F S1024x64 .f32 → Arr F S64x32 .f32 → Arr F S1024x32 .f32),
    unary main_arg12 main_v53 (broadcastInDim S1x32 ![1] bcast_S32_S1x32_1 : Arr F S32 .f32 → Arr F S1x32 .f32),
    unary main_v53 main_v54 (broadcastInDim S1024x32 ![0, 1] bcast_S1x32_S1024x32_0_1 : Arr F S1x32 .f32 → Arr F S1024x32 .f32),
    binary main_v52 main_v54 main_v55 (addf : Arr F S1024x32 .f32 → Arr F S1024x32 .f32 → Arr F S1024x32 .f32),
    binary main_v51 main_arg13 main_v56 ((fun l r => Host.dotGeneral dot_S1024x64_S64x32_S1024x32_1_0_0_1_n_n none l r) : Arr F S1024x64 .f32 → Arr F S64x32 .f32 → Arr F S1024x32 .f32),
    unary main_arg14 main_v57 (broadcastInDim S1x32 ![1] bcast_S32_S1x32_1 : Arr F S32 .f32 → Arr F S1x32 .f32),
    unary main_v57 main_v58 (broadcastInDim S1024x32 ![0, 1] bcast_S1x32_S1024x32_0_1 : Arr F S1x32 .f32 → Arr F S1024x32 .f32),
    binary main_v56 main_v58 main_v59 (addf : Arr F S1024x32 .f32 → Arr F S1024x32 .f32 → Arr F S1024x32 .f32) ]

/-- The buffers those operations write. -/
abbrev images_W : List (Ref sig .tc) :=
  [main_v52, main_v53, main_v54, main_v55, main_v56, main_v57, main_v58, main_v59]

/-- The operations of the nearest label of the first side. -/
abbrev nearest1 : List (HloOp τ sig (Elt F)) :=
  [ binary main_v55 main_v55 main_v60 (mulf : Arr F S1024x32 .f32 → Arr F S1024x32 .f32 → Arr F S1024x32 .f32),
    nullary main_cst_9 (constant S_ .f32 0x00000000#32),
    binary main_v60 main_cst_9 main_v61 ((fun x v => Host.reduceAdd x v reducesTo_S1024x32_S1024_d1 h_S_) : Arr F S1024x32 .f32 → Arr F S_ .f32 → Arr F S1024 .f32),
    unary main_v61 main_v62 (broadcastInDim S1024x1 ![0] bcast_S1024_S1024x1_0 : Arr F S1024 .f32 → Arr F S1024x1 .f32),
    binary main_arg5 main_arg5 main_v63 (mulf : Arr F S100x32 .f32 → Arr F S100x32 .f32 → Arr F S100x32 .f32),
    nullary main_cst_10 (constant S_ .f32 0x00000000#32),
    binary main_v63 main_cst_10 main_v64 ((fun x v => Host.reduceAdd x v reducesTo_S100x32_S100_d1 h_S_) : Arr F S100x32 .f32 → Arr F S_ .f32 → Arr F S100 .f32),
    unary main_v64 main_v65 (broadcastInDim S1x100 ![1] bcast_S100_S1x100_1 : Arr F S100 .f32 → Arr F S1x100 .f32),
    unary main_v62 main_v66 (broadcastInDim S1024x100 ![0, 1] bcast_S1024x1_S1024x100_0_1 : Arr F S1024x1 .f32 → Arr F S1024x100 .f32),
    unary main_v65 main_v67 (broadcastInDim S1024x100 ![0, 1] bcast_S1x100_S1024x100_0_1 : Arr F S1x100 .f32 → Arr F S1024x100 .f32),
    binary main_v66 main_v67 main_v68 (addf : Arr F S1024x100 .f32 → Arr F S1024x100 .f32 → Arr F S1024x100 .f32),
    unary main_arg5 main_v69 ((transpose S32x100 [1, 0] · transposes_S100x32_S32x100_1_0) : Arr F S100x32 .f32 → Arr F S32x100 .f32),
    binary main_v55 main_v69 main_v70 ((fun l r => Host.dotGeneral dot_S1024x32_S32x100_S1024x100_1_0_0_1_n_n none l r) : Arr F S1024x32 .f32 → Arr F S32x100 .f32 → Arr F S1024x100 .f32),
    nullary main_cst_11 (constant S_ .f32 0x40000000#32),
    unary main_cst_11 main_v71 (broadcastInDim S1024x100 ![] bcast_S_S1024x100 : Arr F S_ .f32 → Arr F S1024x100 .f32),
    binary main_v71 main_v70 main_v72 (mulf : Arr F S1024x100 .f32 → Arr F S1024x100 .f32 → Arr F S1024x100 .f32),
    binary main_v68 main_v72 main_v73 (subf : Arr F S1024x100 .f32 → Arr F S1024x100 .f32 → Arr F S1024x100 .f32),
    nullary main_cst_12 (constant S_ .f32 0x00000000#32),
    TRef.unary (.of main_cst_12 : TRef sig ⟨S_, .f32⟩) (.of main_call2_v0 : TRef sig ⟨S_, .f32⟩) id,
    TRef.unary (.of main_call2_v0 : TRef sig ⟨S_, .f32⟩) (.of main_call2_v1 : TRef sig ⟨S1024x100, .f32⟩) (broadcastInDim S1024x100 ![] bcast_S_S1024x100),
    TRef.binary (.of main_call2_v1 : TRef sig ⟨S1024x100, .f32⟩) (.of main_v73 : TRef sig ⟨S1024x100, .f32⟩) (.of main_v74 : TRef sig ⟨S1024x100, .f32⟩) maximumf,
    unary main_v74 main_v75 (Host.sqrt : Arr F S1024x100 .f32 → Arr F S1024x100 .f32),
    TRef.nullary (.of main_call3_v0 : TRef sig ⟨S1024x100, .i32⟩) (iotaInDim S1024x100 32 1),
    TRef.nullary (.of main_call3_cst : TRef sig ⟨S_, .f32⟩) (constant S_ .f32 0x7F800000#32),
    TRef.nullary (.of main_call3_c : TRef sig ⟨S_, .i32⟩) (constantI S_ 32 0#32),
    TRef.quaternary (.of main_v75 : TRef sig ⟨S1024x100, .f32⟩) (.of main_call3_v0 : TRef sig ⟨S1024x100, .i32⟩) (.of main_call3_cst : TRef sig ⟨S_, .f32⟩) (.of main_call3_c : TRef sig ⟨S_, .i32⟩) (.of main_call3_v1_0 : TRef sig ⟨S1024, .f32⟩)
      (fun x y u v j => (Host.argReduce reducer_argmin_f32_i32 x y u v reducesTo_S1024x100_S1024_d1 h_S_ j).1),
    TRef.quaternary (.of main_v75 : TRef sig ⟨S1024x100, .f32⟩) (.of main_call3_v0 : TRef sig ⟨S1024x100, .i32⟩) (.of main_call3_cst : TRef sig ⟨S_, .f32⟩) (.of main_call3_c : TRef sig ⟨S_, .i32⟩) (.of main_v76 : TRef sig ⟨S1024, .i32⟩)
      (fun x y u v j => (Host.argReduce reducer_argmin_f32_i32 x y u v reducesTo_S1024x100_S1024_d1 h_S_ j).2) ]

/-- The buffers those operations write. -/
abbrev nearest1_W : List (Ref sig .tc) :=
  [main_v60, main_cst_9, main_v61, main_v62, main_v63, main_cst_10, main_v64, main_v65, main_v66,
   main_v67, main_v68, main_v69, main_v70, main_cst_11, main_v71, main_v72, main_v73, main_cst_12,
   main_call2_v0, main_call2_v1, main_v74, main_v75, main_call3_v0, main_call3_cst, main_call3_c,
   main_call3_v1_0, main_v76]

/-- The operations of the nearest label of the second side. -/
abbrev nearest2 : List (HloOp τ sig (Elt F)) :=
  [ binary main_v59 main_v59 main_v77 (mulf : Arr F S1024x32 .f32 → Arr F S1024x32 .f32 → Arr F S1024x32 .f32),
    nullary main_cst_13 (constant S_ .f32 0x00000000#32),
    binary main_v77 main_cst_13 main_v78 ((fun x v => Host.reduceAdd x v reducesTo_S1024x32_S1024_d1 h_S_) : Arr F S1024x32 .f32 → Arr F S_ .f32 → Arr F S1024 .f32),
    unary main_v78 main_v79 (broadcastInDim S1024x1 ![0] bcast_S1024_S1024x1_0 : Arr F S1024 .f32 → Arr F S1024x1 .f32),
    binary main_arg6 main_arg6 main_v80 (mulf : Arr F S100x32 .f32 → Arr F S100x32 .f32 → Arr F S100x32 .f32),
    nullary main_cst_14 (constant S_ .f32 0x00000000#32),
    binary main_v80 main_cst_14 main_v81 ((fun x v => Host.reduceAdd x v reducesTo_S100x32_S100_d1 h_S_) : Arr F S100x32 .f32 → Arr F S_ .f32 → Arr F S100 .f32),
    unary main_v81 main_v82 (broadcastInDim S1x100 ![1] bcast_S100_S1x100_1 : Arr F S100 .f32 → Arr F S1x100 .f32),
    unary main_v79 main_v83 (broadcastInDim S1024x100 ![0, 1] bcast_S1024x1_S1024x100_0_1 : Arr F S1024x1 .f32 → Arr F S1024x100 .f32),
    unary main_v82 main_v84 (broadcastInDim S1024x100 ![0, 1] bcast_S1x100_S1024x100_0_1 : Arr F S1x100 .f32 → Arr F S1024x100 .f32),
    binary main_v83 main_v84 main_v85 (addf : Arr F S1024x100 .f32 → Arr F S1024x100 .f32 → Arr F S1024x100 .f32),
    unary main_arg6 main_v86 ((transpose S32x100 [1, 0] · transposes_S100x32_S32x100_1_0) : Arr F S100x32 .f32 → Arr F S32x100 .f32),
    binary main_v59 main_v86 main_v87 ((fun l r => Host.dotGeneral dot_S1024x32_S32x100_S1024x100_1_0_0_1_n_n none l r) : Arr F S1024x32 .f32 → Arr F S32x100 .f32 → Arr F S1024x100 .f32),
    nullary main_cst_15 (constant S_ .f32 0x40000000#32),
    unary main_cst_15 main_v88 (broadcastInDim S1024x100 ![] bcast_S_S1024x100 : Arr F S_ .f32 → Arr F S1024x100 .f32),
    binary main_v88 main_v87 main_v89 (mulf : Arr F S1024x100 .f32 → Arr F S1024x100 .f32 → Arr F S1024x100 .f32),
    binary main_v85 main_v89 main_v90 (subf : Arr F S1024x100 .f32 → Arr F S1024x100 .f32 → Arr F S1024x100 .f32),
    nullary main_cst_16 (constant S_ .f32 0x00000000#32),
    TRef.unary (.of main_cst_16 : TRef sig ⟨S_, .f32⟩) (.of main_call4_v0 : TRef sig ⟨S_, .f32⟩) id,
    TRef.unary (.of main_call4_v0 : TRef sig ⟨S_, .f32⟩) (.of main_call4_v1 : TRef sig ⟨S1024x100, .f32⟩) (broadcastInDim S1024x100 ![] bcast_S_S1024x100),
    TRef.binary (.of main_call4_v1 : TRef sig ⟨S1024x100, .f32⟩) (.of main_v90 : TRef sig ⟨S1024x100, .f32⟩) (.of main_v91 : TRef sig ⟨S1024x100, .f32⟩) maximumf,
    unary main_v91 main_v92 (Host.sqrt : Arr F S1024x100 .f32 → Arr F S1024x100 .f32),
    TRef.nullary (.of main_call5_v0 : TRef sig ⟨S1024x100, .i32⟩) (iotaInDim S1024x100 32 1),
    TRef.nullary (.of main_call5_cst : TRef sig ⟨S_, .f32⟩) (constant S_ .f32 0x7F800000#32),
    TRef.nullary (.of main_call5_c : TRef sig ⟨S_, .i32⟩) (constantI S_ 32 0#32),
    TRef.quaternary (.of main_v92 : TRef sig ⟨S1024x100, .f32⟩) (.of main_call5_v0 : TRef sig ⟨S1024x100, .i32⟩) (.of main_call5_cst : TRef sig ⟨S_, .f32⟩) (.of main_call5_c : TRef sig ⟨S_, .i32⟩) (.of main_call5_v1_0 : TRef sig ⟨S1024, .f32⟩)
      (fun x y u v j => (Host.argReduce reducer_argmin_f32_i32 x y u v reducesTo_S1024x100_S1024_d1 h_S_ j).1),
    TRef.quaternary (.of main_v92 : TRef sig ⟨S1024x100, .f32⟩) (.of main_call5_v0 : TRef sig ⟨S1024x100, .i32⟩) (.of main_call5_cst : TRef sig ⟨S_, .f32⟩) (.of main_call5_c : TRef sig ⟨S_, .i32⟩) (.of main_v93 : TRef sig ⟨S1024, .i32⟩)
      (fun x y u v j => (Host.argReduce reducer_argmin_f32_i32 x y u v reducesTo_S1024x100_S1024_d1 h_S_ j).2) ]

/-- The buffers those operations write. -/
abbrev nearest2_W : List (Ref sig .tc) :=
  [main_v77, main_cst_13, main_v78, main_v79, main_v80, main_cst_14, main_v81, main_v82, main_v83,
   main_v84, main_v85, main_v86, main_v87, main_cst_15, main_v88, main_v89, main_v90, main_cst_16,
   main_call4_v0, main_call4_v1, main_v91, main_v92, main_call5_v0, main_call5_cst, main_call5_c,
   main_call5_v1_0, main_v93]

/-- The operations of the label indices of the first side. -/
abbrev index1 : List (HloOp τ sig (Elt F)) :=
  [ nullary main_c (constantI S_ 32 0#32),
    unary main_c main_v94 (broadcastInDim S20000 ![] bcast_S_S20000 : Arr F S_ .i32 → Arr F S20000 .i32),
    binary main_arg7 main_v94 main_v95 (cmpi .slt : Arr F S20000 .i32 → Arr F S20000 .i32 → Arr F S20000 .i1),
    nullary main_c_17 (constantI S_ 32 100#32),
    unary main_c_17 main_v96 (broadcastInDim S20000 ![] bcast_S_S20000 : Arr F S_ .i32 → Arr F S20000 .i32),
    binary main_arg7 main_v96 main_v97 (addi : Arr F S20000 .i32 → Arr F S20000 .i32 → Arr F S20000 .i32),
    ternary main_v95 main_v97 main_arg7 main_v98 (select : Arr F S20000 .i1 → Arr F S20000 .i32 → Arr F S20000 .i32 → Arr F S20000 .i32),
    unary main_v98 main_v99 (broadcastInDim S20000x1 ![0] bcast_S20000_S20000x1_0 : Arr F S20000 .i32 → Arr F S20000x1 .i32) ]

/-- The buffers those operations write. -/
abbrev index1_W : List (Ref sig .tc) :=
  [main_c, main_v94, main_v95, main_c_17, main_v96, main_v97, main_v98, main_v99]

/-- The operations of the target of the first side. -/
abbrev target1 : List (HloOp τ sig (Elt F)) :=
  [ binary main_arg9 main_v99 main_v100 ((fun x i => Host.gather gather_S100x100_S20000x1_S20000x100_1_0_n_n_0_1_1100 x i) : Arr F S100x100 .f32 → Arr F S20000x1 .i32 → Arr F S20000x100 .f32),
    nullary main_c_18 (constantI S_ 32 0#32),
    unary main_c_18 main_v101 (broadcastInDim S1024 ![] bcast_S_S1024 : Arr F S_ .i32 → Arr F S1024 .i32),
    binary main_v76 main_v101 main_v102 (cmpi .slt : Arr F S1024 .i32 → Arr F S1024 .i32 → Arr F S1024 .i1),
    nullary main_c_19 (constantI S_ 32 100#32),
    unary main_c_19 main_v103 (broadcastInDim S1024 ![] bcast_S_S1024 : Arr F S_ .i32 → Arr F S1024 .i32),
    binary main_v76 main_v103 main_v104 (addi : Arr F S1024 .i32 → Arr F S1024 .i32 → Arr F S1024 .i32),
    ternary main_v102 main_v104 main_v76 main_v105 (select : Arr F S1024 .i1 → Arr F S1024 .i32 → Arr F S1024 .i32 → Arr F S1024 .i32),
    unary main_v105 main_v106 (broadcastInDim S1024x1 ![0] bcast_S1024_S1024x1_0 : Arr F S1024 .i32 → Arr F S1024x1 .i32),
    binary main_v100 main_v106 main_v107 ((fun x i => Host.gather gather_S20000x100_S1024x1_S20000x1024_0_1_n_n_1_1_200001 x i) : Arr F S20000x100 .f32 → Arr F S1024x1 .i32 → Arr F S20000x1024 .f32),
    binary main_arg3 main_arg3 main_v108 (mulf : Arr F S20000x64 .f32 → Arr F S20000x64 .f32 → Arr F S20000x64 .f32),
    nullary main_cst_20 (constant S_ .f32 0x00000000#32),
    binary main_v108 main_cst_20 main_v109 ((fun x v => Host.reduceAdd x v reducesTo_S20000x64_S20000_d1 h_S_) : Arr F S20000x64 .f32 → Arr F S_ .f32 → Arr F S20000 .f32),
    unary main_v109 main_v110 (broadcastInDim S20000x1 ![0] bcast_S20000_S20000x1_0 : Arr F S20000 .f32 → Arr F S20000x1 .f32),
    binary main_v25 main_v25 main_v111 (mulf : Arr F S1024x64 .f32 → Arr F S1024x64 .f32 → Arr F S1024x64 .f32),
    nullary main_cst_21 (constant S_ .f32 0x00000000#32),
    binary main_v111 main_cst_21 main_v112 ((fun x v => Host.reduceAdd x v reducesTo_S1024x64_S1024_d1 h_S_) : Arr F S1024x64 .f32 → Arr F S_ .f32 → Arr F S1024 .f32),
    unary main_v112 main_v113 (broadcastInDim S1x1024 ![1] bcast_S1024_S1x1024_1 : Arr F S1024 .f32 → Arr F S1x1024 .f32),
    unary main_v110 main_v114 (broadcastInDim S20000x1024 ![0, 1] bcast_S20000x1_S20000x1024_0_1 : Arr F S20000x1 .f32 → Arr F S20000x1024 .f32),
    unary main_v113 main_v115 (broadcastInDim S20000x1024 ![0, 1] bcast_S1x1024_S20000x1024_0_1 : Arr F S1x1024 .f32 → Arr F S20000x1024 .f32),
    binary main_v114 main_v115 main_v116 (addf : Arr F S20000x1024 .f32 → Arr F S20000x1024 .f32 → Arr F S20000x1024 .f32),
    unary main_v25 main_v117 ((transpose S64x1024 [1, 0] · transposes_S1024x64_S64x1024_1_0) : Arr F S1024x64 .f32 → Arr F S64x1024 .f32),
    binary main_arg3 main_v117 main_v118 ((fun l r => Host.dotGeneral dot_S20000x64_S64x1024_S20000x1024_1_0_0_1_n_n none l r) : Arr F S20000x64 .f32 → Arr F S64x1024 .f32 → Arr F S20000x1024 .f32),
    nullary main_cst_22 (constant S_ .f32 0x40000000#32),
    unary main_cst_22 main_v119 (broadcastInDim S20000x1024 ![] bcast_S_S20000x1024 : Arr F S_ .f32 → Arr F S20000x1024 .f32),
    binary main_v119 main_v118 main_v120 (mulf : Arr F S20000x1024 .f32 → Arr F S20000x1024 .f32 → Arr F S20000x1024 .f32),
    binary main_v116 main_v120 main_v121 (subf : Arr F S20000x1024 .f32 → Arr F S20000x1024 .f32 → Arr F S20000x1024 .f32),
    nullary main_cst_23 (constant S_ .f32 0x00000000#32),
    TRef.unary (.of main_cst_23 : TRef sig ⟨S_, .f32⟩) (.of main_call6_v0 : TRef sig ⟨S_, .f32⟩) id,
    TRef.unary (.of main_call6_v0 : TRef sig ⟨S_, .f32⟩) (.of main_call6_v1 : TRef sig ⟨S20000x1024, .f32⟩) (broadcastInDim S20000x1024 ![] bcast_S_S20000x1024),
    TRef.binary (.of main_call6_v1 : TRef sig ⟨S20000x1024, .f32⟩) (.of main_v121 : TRef sig ⟨S20000x1024, .f32⟩) (.of main_v122 : TRef sig ⟨S20000x1024, .f32⟩) maximumf,
    unary main_v122 main_v123 (Host.sqrt : Arr F S20000x1024 .f32 → Arr F S20000x1024 .f32),
    binary main_v123 main_v123 main_v124 (mulf : Arr F S20000x1024 .f32 → Arr F S20000x1024 .f32 → Arr F S20000x1024 .f32),
    unary main_v124 main_v125 (Host.negf : Arr F S20000x1024 .f32 → Arr F S20000x1024 .f32),
    nullary main_cst_24 (constant S_ .f32 0x3C23D70A#32),
    unary main_cst_24 main_v126 (broadcastInDim S20000x1024 ![] bcast_S_S20000x1024 : Arr F S_ .f32 → Arr F S20000x1024 .f32),
    binary main_v126 main_v107 main_v127 (mulf : Arr F S20000x1024 .f32 → Arr F S20000x1024 .f32 → Arr F S20000x1024 .f32),
    binary main_v125 main_v127 main_v128 (subf : Arr F S20000x1024 .f32 → Arr F S20000x1024 .f32 → Arr F S20000x1024 .f32),
    unary main_v128 main_v129 (Host.exp : Arr F S20000x1024 .f32 → Arr F S20000x1024 .f32),
    unary main_arg2 main_v130 ((transpose S32x20000 [1, 0] · transposes_S20000x32_S32x20000_1_0) : Arr F S20000x32 .f32 → Arr F S32x20000 .f32),
    binary main_v130 main_v129 main_v131 ((fun l r => Host.dotGeneral dot_S32x20000_S20000x1024_S32x1024_1_0_0_1_n_n none l r) : Arr F S32x20000 .f32 → Arr F S20000x1024 .f32 → Arr F S32x1024 .f32),
    nullary main_cst_25 (constant S_ .f32 0x00000000#32),
    binary main_v129 main_cst_25 main_v132 ((fun x v => Host.reduceAdd x v reducesTo_S20000x1024_S1024_d0 h_S_) : Arr F S20000x1024 .f32 → Arr F S_ .f32 → Arr F S1024 .f32),
    unary main_v132 main_v133 (broadcastInDim S1x1024 ![1] bcast_S1024_S1x1024_1 : Arr F S1024 .f32 → Arr F S1x1024 .f32),
    unary main_v133 main_v134 (broadcastInDim S32x1024 ![0, 1] bcast_S1x1024_S32x1024_0_1 : Arr F S1x1024 .f32 → Arr F S32x1024 .f32),
    binary main_v131 main_v134 main_v135 (Host.divf : Arr F S32x1024 .f32 → Arr F S32x1024 .f32 → Arr F S32x1024 .f32),
    unary main_v135 main_v136 ((transpose S1024x32 [1, 0] · transposes_S32x1024_S1024x32_1_0) : Arr F S32x1024 .f32 → Arr F S1024x32 .f32) ]

/-- The buffers those operations write. -/
abbrev target1_W : List (Ref sig .tc) :=
  [main_v100, main_c_18, main_v101, main_v102, main_c_19, main_v103, main_v104, main_v105, main_v106,
   main_v107, main_v108, main_cst_20, main_v109, main_v110, main_v111, main_cst_21, main_v112, main_v113,
   main_v114, main_v115, main_v116, main_v117, main_v118, main_cst_22, main_v119, main_v120, main_v121,
   main_cst_23, main_call6_v0, main_call6_v1, main_v122, main_v123, main_v124, main_v125, main_cst_24,
   main_v126, main_v127, main_v128, main_v129, main_v130, main_v131, main_cst_25, main_v132, main_v133,
   main_v134, main_v135, main_v136]

/-- The operations of the label indices of the second side. -/
abbrev index2 : List (HloOp τ sig (Elt F)) :=
  [ nullary main_c_26 (constantI S_ 32 0#32),
    unary main_c_26 main_v137 (broadcastInDim S20000 ![] bcast_S_S20000 : Arr F S_ .i32 → Arr F S20000 .i32),
    binary main_arg8 main_v137 main_v138 (cmpi .slt : Arr F S20000 .i32 → Arr F S20000 .i32 → Arr F S20000 .i1),
    nullary main_c_27 (constantI S_ 32 100#32),
    unary main_c_27 main_v139 (broadcastInDim S20000 ![] bcast_S_S20000 : Arr F S_ .i32 → Arr F S20000 .i32),
    binary main_arg8 main_v139 main_v140 (addi : Arr F S20000 .i32 → Arr F S20000 .i32 → Arr F S20000 .i32),
    ternary main_v138 main_v140 main_arg8 main_v141 (select : Arr F S20000 .i1 → Arr F S20000 .i32 → Arr F S20000 .i32 → Arr F S20000 .i32),
    unary main_v141 main_v142 (broadcastInDim S20000x1 ![0] bcast_S20000_S20000x1_0 : Arr F S20000 .i32 → Arr F S20000x1 .i32),
    binary main_arg10 main_v142 main_v143 ((fun x i => Host.gather gather_S100x100_S20000x1_S20000x100_1_0_n_n_0_1_1100 x i) : Arr F S100x100 .f32 → Arr F S20000x1 .i32 → Arr F S20000x100 .f32),
    nullary main_c_28 (constantI S_ 32 0#32),
    unary main_c_28 main_v144 (broadcastInDim S1024 ![] bcast_S_S1024 : Arr F S_ .i32 → Arr F S1024 .i32),
    binary main_v93 main_v144 main_v145 (cmpi .slt : Arr F S1024 .i32 → Arr F S1024 .i32 → Arr F S1024 .i1),
    nullary main_c_29 (constantI S_ 32 100#32),
    unary main_c_29 main_v146 (broadcastInDim S1024 ![] bcast_S_S1024 : Arr F S_ .i32 → Arr F S1024 .i32),
    binary main_v93 main_v146 main_v147 (addi : Arr F S1024 .i32 → Arr F S1024 .i32 → Arr F S1024 .i32) ]

/-- The buffers those operations write. -/
abbrev index2_W : List (Ref sig .tc) :=
  [main_c_26, main_v137, main_v138, main_c_27, main_v139, main_v140, main_v141, main_v142, main_v143,
   main_c_28, main_v144, main_v145, main_c_29, main_v146, main_v147]

/-- The operations of the target of the second side. -/
abbrev target2 : List (HloOp τ sig (Elt F)) :=
  [ ternary main_v145 main_v147 main_v93 main_v148 (select : Arr F S1024 .i1 → Arr F S1024 .i32 → Arr F S1024 .i32 → Arr F S1024 .i32),
    unary main_v148 main_v149 (broadcastInDim S1024x1 ![0] bcast_S1024_S1024x1_0 : Arr F S1024 .i32 → Arr F S1024x1 .i32),
    binary main_v143 main_v149 main_v150 ((fun x i => Host.gather gather_S20000x100_S1024x1_S20000x1024_0_1_n_n_1_1_200001 x i) : Arr F S20000x100 .f32 → Arr F S1024x1 .i32 → Arr F S20000x1024 .f32),
    binary main_arg4 main_arg4 main_v151 (mulf : Arr F S20000x64 .f32 → Arr F S20000x64 .f32 → Arr F S20000x64 .f32),
    nullary main_cst_30 (constant S_ .f32 0x00000000#32),
    binary main_v151 main_cst_30 main_v152 ((fun x v => Host.reduceAdd x v reducesTo_S20000x64_S20000_d1 h_S_) : Arr F S20000x64 .f32 → Arr F S_ .f32 → Arr F S20000 .f32),
    unary main_v152 main_v153 (broadcastInDim S20000x1 ![0] bcast_S20000_S20000x1_0 : Arr F S20000 .f32 → Arr F S20000x1 .f32),
    binary main_v51 main_v51 main_v154 (mulf : Arr F S1024x64 .f32 → Arr F S1024x64 .f32 → Arr F S1024x64 .f32),
    nullary main_cst_31 (constant S_ .f32 0x00000000#32),
    binary main_v154 main_cst_31 main_v155 ((fun x v => Host.reduceAdd x v reducesTo_S1024x64_S1024_d1 h_S_) : Arr F S1024x64 .f32 → Arr F S_ .f32 → Arr F S1024 .f32),
    unary main_v155 main_v156 (broadcastInDim S1x1024 ![1] bcast_S1024_S1x1024_1 : Arr F S1024 .f32 → Arr F S1x1024 .f32),
    unary main_v153 main_v157 (broadcastInDim S20000x1024 ![0, 1] bcast_S20000x1_S20000x1024_0_1 : Arr F S20000x1 .f32 → Arr F S20000x1024 .f32),
    unary main_v156 main_v158 (broadcastInDim S20000x1024 ![0, 1] bcast_S1x1024_S20000x1024_0_1 : Arr F S1x1024 .f32 → Arr F S20000x1024 .f32),
    binary main_v157 main_v158 main_v159 (addf : Arr F S20000x1024 .f32 → Arr F S20000x1024 .f32 → Arr F S20000x1024 .f32),
    unary main_v51 main_v160 ((transpose S64x1024 [1, 0] · transposes_S1024x64_S64x1024_1_0) : Arr F S1024x64 .f32 → Arr F S64x1024 .f32),
    binary main_arg4 main_v160 main_v161 ((fun l r => Host.dotGeneral dot_S20000x64_S64x1024_S20000x1024_1_0_0_1_n_n none l r) : Arr F S20000x64 .f32 → Arr F S64x1024 .f32 → Arr F S20000x1024 .f32),
    nullary main_cst_32 (constant S_ .f32 0x40000000#32),
    unary main_cst_32 main_v162 (broadcastInDim S20000x1024 ![] bcast_S_S20000x1024 : Arr F S_ .f32 → Arr F S20000x1024 .f32),
    binary main_v162 main_v161 main_v163 (mulf : Arr F S20000x1024 .f32 → Arr F S20000x1024 .f32 → Arr F S20000x1024 .f32),
    binary main_v159 main_v163 main_v164 (subf : Arr F S20000x1024 .f32 → Arr F S20000x1024 .f32 → Arr F S20000x1024 .f32),
    nullary main_cst_33 (constant S_ .f32 0x00000000#32),
    TRef.unary (.of main_cst_33 : TRef sig ⟨S_, .f32⟩) (.of main_call7_v0 : TRef sig ⟨S_, .f32⟩) id,
    TRef.unary (.of main_call7_v0 : TRef sig ⟨S_, .f32⟩) (.of main_call7_v1 : TRef sig ⟨S20000x1024, .f32⟩) (broadcastInDim S20000x1024 ![] bcast_S_S20000x1024),
    TRef.binary (.of main_call7_v1 : TRef sig ⟨S20000x1024, .f32⟩) (.of main_v164 : TRef sig ⟨S20000x1024, .f32⟩) (.of main_v165 : TRef sig ⟨S20000x1024, .f32⟩) maximumf,
    unary main_v165 main_v166 (Host.sqrt : Arr F S20000x1024 .f32 → Arr F S20000x1024 .f32),
    binary main_v166 main_v166 main_v167 (mulf : Arr F S20000x1024 .f32 → Arr F S20000x1024 .f32 → Arr F S20000x1024 .f32),
    unary main_v167 main_v168 (Host.negf : Arr F S20000x1024 .f32 → Arr F S20000x1024 .f32),
    nullary main_cst_34 (constant S_ .f32 0x3C23D70A#32),
    unary main_cst_34 main_v169 (broadcastInDim S20000x1024 ![] bcast_S_S20000x1024 : Arr F S_ .f32 → Arr F S20000x1024 .f32),
    binary main_v169 main_v150 main_v170 (mulf : Arr F S20000x1024 .f32 → Arr F S20000x1024 .f32 → Arr F S20000x1024 .f32),
    binary main_v168 main_v170 main_v171 (subf : Arr F S20000x1024 .f32 → Arr F S20000x1024 .f32 → Arr F S20000x1024 .f32),
    unary main_v171 main_v172 (Host.exp : Arr F S20000x1024 .f32 → Arr F S20000x1024 .f32),
    unary main_arg2 main_v173 ((transpose S32x20000 [1, 0] · transposes_S20000x32_S32x20000_1_0) : Arr F S20000x32 .f32 → Arr F S32x20000 .f32),
    binary main_v173 main_v172 main_v174 ((fun l r => Host.dotGeneral dot_S32x20000_S20000x1024_S32x1024_1_0_0_1_n_n none l r) : Arr F S32x20000 .f32 → Arr F S20000x1024 .f32 → Arr F S32x1024 .f32),
    nullary main_cst_35 (constant S_ .f32 0x00000000#32),
    binary main_v172 main_cst_35 main_v175 ((fun x v => Host.reduceAdd x v reducesTo_S20000x1024_S1024_d0 h_S_) : Arr F S20000x1024 .f32 → Arr F S_ .f32 → Arr F S1024 .f32),
    unary main_v175 main_v176 (broadcastInDim S1x1024 ![1] bcast_S1024_S1x1024_1 : Arr F S1024 .f32 → Arr F S1x1024 .f32),
    unary main_v176 main_v177 (broadcastInDim S32x1024 ![0, 1] bcast_S1x1024_S32x1024_0_1 : Arr F S1x1024 .f32 → Arr F S32x1024 .f32),
    binary main_v174 main_v177 main_v178 (Host.divf : Arr F S32x1024 .f32 → Arr F S32x1024 .f32 → Arr F S32x1024 .f32),
    unary main_v178 main_v179 ((transpose S1024x32 [1, 0] · transposes_S32x1024_S1024x32_1_0) : Arr F S32x1024 .f32 → Arr F S1024x32 .f32) ]

/-- The buffers those operations write. -/
abbrev target2_W : List (Ref sig .tc) :=
  [main_v148, main_v149, main_v150, main_v151, main_cst_30, main_v152, main_v153, main_v154, main_cst_31,
   main_v155, main_v156, main_v157, main_v158, main_v159, main_v160, main_v161, main_cst_32, main_v162,
   main_v163, main_v164, main_cst_33, main_call7_v0, main_call7_v1, main_v165, main_v166, main_v167,
   main_v168, main_cst_34, main_v169, main_v170, main_v171, main_v172, main_v173, main_v174, main_cst_35,
   main_v175, main_v176, main_v177, main_v178, main_v179]

/-- The operations of the average of the two sides. -/
abbrev average : List (HloOp τ sig (Elt F)) :=
  [ binary main_v136 main_v179 main_v180 (addf : Arr F S1024x32 .f32 → Arr F S1024x32 .f32 → Arr F S1024x32 .f32),
    nullary main_cst_36 (constant S_ .f32 0x40000000#32),
    unary main_cst_36 main_v181 (broadcastInDim S1024x32 ![] bcast_S_S1024x32 : Arr F S_ .f32 → Arr F S1024x32 .f32),
    binary main_v180 main_v181 main_v182 (Host.divf : Arr F S1024x32 .f32 → Arr F S1024x32 .f32 → Arr F S1024x32 .f32) ]

/-- The buffers those operations write. -/
abbrev average_W : List (Ref sig .tc) :=
  [main_v180, main_cst_36, main_v181, main_v182]

theorem part0_eq (c : Dev nD) : main_part0 (F := F) c = seq (transport1 ++ transport2a) := rfl

theorem part1_eq (c : Dev nD) : main_part1 (F := F) c = seq (transport2b ++ images ++ nearest1 ++ nearest2 ++ index1) := rfl

theorem part2_eq (c : Dev nD) : main_part2 (F := F) c = seq (target1 ++ index2) := rfl

theorem part3_eq (c : Dev nD) : main_part3 (F := F) c = seq (target2 ++ average) := rfl

/-- The whole program's operations, in order. -/
abbrev ops : List (HloOp τ sig (Elt F)) :=
  (transport1 ++ transport2a) ++ ((transport2b ++ images ++ nearest1 ++ nearest2 ++ index1)
    ++ ((target1 ++ index2) ++ (target2 ++ average)))

/-- The program is its list of operations run in order. -/
theorem main_eq (c : Dev nD) : main (F := F) c = seq ops := by
  rw [ops, seq_append, seq_append (transport2b ++ images ++ nearest1 ++ nearest2 ++ index1), seq_append (target1 ++ index2),
    ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the program only. -/
theorem ops_sub : (ops : List (HloOp τ sig (Elt F))).Forall fun op => op.bufs ⊆ tcRefs τ sig := by
  simp only [ops, transport1, transport2a, transport2b, images, nearest1, nearest2, index1, target1, index2, target2,
    average, TRef.nullary, TRef.unary, TRef.binary, TRef.quaternary, List.cons_append, List.nil_append, List.Forall,
    nullary_bufs_sub, unary_bufs_sub, binary_bufs_sub, ternary_bufs_sub, quaternary_bufs_sub, and_self]

/-- Every operation determines its result. -/
theorem ops_fresh : ∀ op ∈ (ops : List (HloOp τ sig (Elt F))), op.fresh = ∅ := by
  have h : (ops : List (HloOp τ sig (Elt F))).map HloOp.fresh = List.replicate (ops (F := F)).length ∅ := rfl
  exact fun op hop => List.eq_of_mem_replicate (h ▸ List.mem_map_of_mem hop)

end Cert.ReferenceIdeal.Stages
-- ==== Proof.RefStages.lean ====
module

public import proofs.«01_k».proof.Proof.RefOps

/-! What each stage of the reference program leaves in its result buffer, as a function of the arrays it
    reads, and the whole program's result. -/

@[expose] public section

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The distances between the samples `f` and the queries `x`. -/
def dist (f : Arr F S20000x64 .f32) (x : Arr F S1024x64 .f32) : Arr F S20000x1024 .f32 :=
  Host.sqrt (maximumf (broadcastInDim S20000x1024 ![] bcast_S_S20000x1024 (id (constant S_ .f32 0x00000000#32)))
    (subf
      (addf
        (broadcastInDim S20000x1024 ![0, 1] bcast_S20000x1_S20000x1024_0_1 (broadcastInDim S20000x1 ![0]
          bcast_S20000_S20000x1_0 (Host.reduceAdd (mulf f f) (constant S_ .f32 0x00000000#32) reducesTo_S20000x64_S20000_d1 h_S_)))
        (broadcastInDim S20000x1024 ![0, 1] bcast_S1x1024_S20000x1024_0_1 (broadcastInDim S1x1024 ![1]
          bcast_S1024_S1x1024_1 (Host.reduceAdd (mulf x x) (constant S_ .f32 0x00000000#32) reducesTo_S1024x64_S1024_d1 h_S_))))
      (mulf (broadcastInDim S20000x1024 ![] bcast_S_S20000x1024 (constant S_ .f32 0x40000000#32))
        (Host.dotGeneral dot_S20000x64_S64x1024_S20000x1024_1_0_0_1_n_n none f
          (transpose S64x1024 [1, 0] x transposes_S1024x64_S64x1024_1_0)))))

/-- The weights of the transport. -/
def kernelW (f : Arr F S20000x64 .f32) (x : Arr F S1024x64 .f32) : Arr F S20000x1024 .f32 :=
  Host.exp (Host.negf (mulf (dist f x) (dist f x)))

/-- The transport of the queries `x`: the average of `f` under the weights of `fs` at `x`. -/
def transport (x : Arr F S1024x64 .f32) (fs f : Arr F S20000x64 .f32) : Arr F S1024x64 .f32 :=
  transpose S1024x64 [1, 0] (Host.divf
    (Host.dotGeneral dot_S64x20000_S20000x1024_S64x1024_1_0_0_1_n_n none
      (transpose S64x20000 [1, 0] f transposes_S20000x64_S64x20000_1_0) (kernelW fs x))
    (broadcastInDim S64x1024 ![0, 1] bcast_S1x1024_S64x1024_0_1 (broadcastInDim S1x1024 ![1] bcast_S1024_S1x1024_1
      (Host.reduceAdd (kernelW fs x) (constant S_ .f32 0x00000000#32) reducesTo_S20000x1024_S1024_d0 h_S_))))
    transposes_S64x1024_S1024x64_1_0

/-- The linear image of the transported queries. -/
def image (xt : Arr F S1024x64 .f32) (W : Arr F S64x32 .f32) (b : Arr F S32 .f32) : Arr F S1024x32 .f32 :=
  addf (Host.dotGeneral dot_S1024x64_S64x32_S1024x32_1_0_0_1_n_n none xt W)
    (broadcastInDim S1024x32 ![0, 1] bcast_S1x32_S1024x32_0_1 (broadcastInDim S1x32 ![1] bcast_S32_S1x32_1 b))

/-- The distances of the images to the labels. -/
def labelDist (y : Arr F S1024x32 .f32) (u : Arr F S100x32 .f32) : Arr F S1024x100 .f32 :=
  Host.sqrt (maximumf (broadcastInDim S1024x100 ![] bcast_S_S1024x100 (id (constant S_ .f32 0x00000000#32)))
    (subf
      (addf
        (broadcastInDim S1024x100 ![0, 1] bcast_S1024x1_S1024x100_0_1 (broadcastInDim S1024x1 ![0]
          bcast_S1024_S1024x1_0 (Host.reduceAdd (mulf y y) (constant S_ .f32 0x00000000#32) reducesTo_S1024x32_S1024_d1 h_S_)))
        (broadcastInDim S1024x100 ![0, 1] bcast_S1x100_S1024x100_0_1 (broadcastInDim S1x100 ![1]
          bcast_S100_S1x100_1 (Host.reduceAdd (mulf u u) (constant S_ .f32 0x00000000#32) reducesTo_S100x32_S100_d1 h_S_))))
      (mulf (broadcastInDim S1024x100 ![] bcast_S_S1024x100 (constant S_ .f32 0x40000000#32))
        (Host.dotGeneral dot_S1024x32_S32x100_S1024x100_1_0_0_1_n_n none y
          (transpose S32x100 [1, 0] u transposes_S100x32_S32x100_1_0)))))

/-- The number of the label nearest to each image. -/
def nearest (y : Arr F S1024x32 .f32) (u : Arr F S100x32 .f32) : Arr F S1024 .i32 := fun j =>
  (Host.argReduce reducer_argmin_f32_i32 (labelDist y u) (iotaInDim S1024x100 32 1) (constant S_ .f32 0x7F800000#32)
    (constantI S_ 32 0#32) reducesTo_S1024x100_S1024_d1 h_S_ j).2

/-- Label numbers as row indices of a table. -/
def rowIndex (l : Arr F S20000 .i32) : Arr F S20000x1 .i32 :=
  broadcastInDim S20000x1 ![0] bcast_S20000_S20000x1_0
    (select (cmpi .slt l (broadcastInDim S20000 ![] bcast_S_S20000 (constantI S_ 32 0#32)))
      (addi l (broadcastInDim S20000 ![] bcast_S_S20000 (constantI S_ 32 100#32))) l)

/-- Label numbers as column indices of a table. -/
def colIndex (j : Arr F S1024 .i32) : Arr F S1024x1 .i32 :=
  broadcastInDim S1024x1 ![0] bcast_S1024_S1024x1_0
    (select (cmpi .slt j (broadcastInDim S1024 ![] bcast_S_S1024 (constantI S_ 32 0#32)))
      (addi j (broadcastInDim S1024 ![] bcast_S_S1024 (constantI S_ 32 100#32))) j)

/-- The label distances of each sample to each query's nearest label. -/
def lookup (d : Arr F S100x100 .f32) (r : Arr F S20000x1 .i32) (q : Arr F S1024 .i32) : Arr F S20000x1024 .f32 :=
  Host.gather gather_S20000x100_S1024x1_S20000x1024_0_1_n_n_1_1_200001
    (Host.gather gather_S100x100_S20000x1_S20000x100_1_0_n_n_0_1_1100 d r) (colIndex q)

/-- The weights of the target. -/
def weights (f : Arr F S20000x64 .f32) (xt : Arr F S1024x64 .f32) (g : Arr F S20000x1024 .f32) : Arr F S20000x1024 .f32 :=
  Host.exp (subf (Host.negf (mulf (dist f xt) (dist f xt)))
    (mulf (broadcastInDim S20000x1024 ![] bcast_S_S20000x1024 (constant S_ .f32 0x3C23D70A#32)) g))

/-- The target: the average of the labels `ls` under weights `w`. -/
def target (ls : Arr F S20000x32 .f32) (w : Arr F S20000x1024 .f32) : Arr F S1024x32 .f32 :=
  transpose S1024x32 [1, 0] (Host.divf
    (Host.dotGeneral dot_S32x20000_S20000x1024_S32x1024_1_0_0_1_n_n none
      (transpose S32x20000 [1, 0] ls transposes_S20000x32_S32x20000_1_0) w)
    (broadcastInDim S32x1024 ![0, 1] bcast_S1x1024_S32x1024_0_1 (broadcastInDim S1x1024 ![1] bcast_S1024_S1x1024_1
      (Host.reduceAdd w (constant S_ .f32 0x00000000#32) reducesTo_S20000x1024_S1024_d0 h_S_))))
    transposes_S32x1024_S1024x32_1_0

/-- The average of two arrays. -/
def mean (a b : Arr F S1024x32 .f32) : Arr F S1024x32 .f32 :=
  Host.divf (addf a b) (broadcastInDim S1024x32 ![] bcast_S_S1024x32 (constant S_ .f32 0x40000000#32))

/-- One side of the computation, from the transport to the target. -/
def side (x : Arr F S1024x64 .f32) (fs : Arr F S20000x64 .f32) (ls : Arr F S20000x32 .f32) (f : Arr F S20000x64 .f32)
    (u : Arr F S100x32 .f32) (l : Arr F S20000 .i32) (d : Arr F S100x100 .f32) (W : Arr F S64x32 .f32) (b : Arr F S32 .f32) :
    Arr F S1024x32 .f32 :=
  target ls (weights f (transport x fs f) (lookup d (rowIndex l) (nearest (image (transport x fs f) W b) u)))

/-- A line of operations leaves every buffer outside `W` alone when it writes the buffers of `W` in order. -/
theorem kept {W : List (Ref sig .tc)} (s : List (HloOp τ sig (Elt F))) (V : Valuation τ sig (Elt F))
    (h : s.map HloOp.writes = W.map fun r => {Proc.devRef (τ := τ) .tc r}) (r : Ref sig .tc) (hr : r ∉ W) :
    after s V (no_index (Proc.devRef .tc r)) = V (Proc.devRef .tc r) :=
  after_of_writes_sub s V (forall_writes_sub_of_map h) hr

variable (V : Valuation τ sig (Elt F))

theorem after_transport1 : after transport1 V (Proc.devRef .tc main_v25)
    = transport (V (Proc.devRef .tc main_arg0)) (V (Proc.devRef .tc main_arg1)) (V (Proc.devRef .tc main_arg3)) := by
  simp only [transport1, TRef.binary, TRef.unary, TRef.toBuf, TRef.ofBuf, cast_eq]
  after_results_simp
  rfl

theorem after_transport2 : after transport2b (after transport2a V) (Proc.devRef .tc main_v51)
    = transport (V (Proc.devRef .tc main_arg0)) (V (Proc.devRef .tc main_arg1)) (V (Proc.devRef .tc main_arg4)) := by
  simp only [transport2a, transport2b, TRef.binary, TRef.unary, TRef.toBuf, TRef.ofBuf, cast_eq]
  after_results_simp
  rfl

theorem after_images1 : after images V (Proc.devRef .tc main_v55)
    = image (V (Proc.devRef .tc main_v25)) (V (Proc.devRef .tc main_arg11)) (V (Proc.devRef .tc main_arg12)) := by
  simp only [images]
  after_results_simp
  rfl

theorem after_images2 : after images V (Proc.devRef .tc main_v59)
    = image (V (Proc.devRef .tc main_v51)) (V (Proc.devRef .tc main_arg13)) (V (Proc.devRef .tc main_arg14)) := by
  simp only [images]
  after_results_simp
  rfl

theorem after_nearest1 : after nearest1 V (Proc.devRef .tc main_v76)
    = nearest (V (Proc.devRef .tc main_v55)) (V (Proc.devRef .tc main_arg5)) := by
  simp only [nearest1, TRef.nullary, TRef.quaternary, TRef.binary, TRef.unary, TRef.toBuf, TRef.ofBuf, cast_eq]
  after_results_simp
  rfl

theorem after_nearest2 : after nearest2 V (Proc.devRef .tc main_v93)
    = nearest (V (Proc.devRef .tc main_v59)) (V (Proc.devRef .tc main_arg6)) := by
  simp only [nearest2, TRef.nullary, TRef.quaternary, TRef.binary, TRef.unary, TRef.toBuf, TRef.ofBuf, cast_eq]
  after_results_simp
  rfl

theorem after_index1 : after index1 V (Proc.devRef .tc main_v99) = rowIndex (V (Proc.devRef .tc main_arg7)) := by
  simp only [index1]
  after_results_simp
  rfl

theorem after_target1 : after target1 V (Proc.devRef .tc main_v136)
    = target (V (Proc.devRef .tc main_arg2)) (weights (V (Proc.devRef .tc main_arg3)) (V (Proc.devRef .tc main_v25))
      (lookup (V (Proc.devRef .tc main_arg9)) (V (Proc.devRef .tc main_v99)) (V (Proc.devRef .tc main_v76)))) := by
  simp only [target1, TRef.binary, TRef.unary, TRef.toBuf, TRef.ofBuf, cast_eq]
  after_results_simp
  rfl

theorem after_target2 : after target2 (after index2 V) (Proc.devRef .tc main_v179)
    = target (V (Proc.devRef .tc main_arg2)) (weights (V (Proc.devRef .tc main_arg4)) (V (Proc.devRef .tc main_v51))
      (lookup (V (Proc.devRef .tc main_arg10)) (rowIndex (V (Proc.devRef .tc main_arg8))) (V (Proc.devRef .tc main_v93)))) := by
  simp only [target2, index2, TRef.binary, TRef.unary, TRef.toBuf, TRef.ofBuf, cast_eq]
  after_results_simp
  rfl

theorem after_average : after average V (Proc.devRef .tc main_v182)
    = mean (V (Proc.devRef .tc main_v136)) (V (Proc.devRef .tc main_v179)) := by
  simp only [average]
  after_results_simp
  rfl

end Cert.ReferenceIdeal.Stages
-- ==== Proof.RefRun.lean ====
module

public import proofs.«01_k».proof.Proof.RefStages
public import Idealize.ShloMosaic.Lib.Quiescent

/-! The reference's run: it ends with the mean of the two sides in its result and every argument unchanged. -/

@[expose] public section

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The buffers the program writes. -/
abbrev written : List (Ref sig .tc) :=
  (transport1_W ++ transport2a_W) ++ ((transport2b_W ++ images_W ++ nearest1_W ++ nearest2_W ++ index1_W)
    ++ ((target1_W ++ index2_W) ++ (target2_W ++ average_W)))

/-- The program leaves its arguments alone. -/
theorem ops_kept (V : Valuation τ sig (Elt F)) (r : Ref sig .tc) (h : r ∉ written) :
    after ops V (Proc.devRef .tc r) = V (Proc.devRef .tc r) :=
  kept (W := written) ops V rfl r h

/-- The program's result, from the contents it starts at. -/
def result (V : Valuation τ sig (Elt F)) : Arr F S1024x32 .f32 :=
  mean
    (side (V (Proc.devRef .tc main_arg0)) (V (Proc.devRef .tc main_arg1)) (V (Proc.devRef .tc main_arg2))
      (V (Proc.devRef .tc main_arg3)) (V (Proc.devRef .tc main_arg5)) (V (Proc.devRef .tc main_arg7))
      (V (Proc.devRef .tc main_arg9)) (V (Proc.devRef .tc main_arg11)) (V (Proc.devRef .tc main_arg12)))
    (side (V (Proc.devRef .tc main_arg0)) (V (Proc.devRef .tc main_arg1)) (V (Proc.devRef .tc main_arg2))
      (V (Proc.devRef .tc main_arg4)) (V (Proc.devRef .tc main_arg6)) (V (Proc.devRef .tc main_arg8))
      (V (Proc.devRef .tc main_arg10)) (V (Proc.devRef .tc main_arg13)) (V (Proc.devRef .tc main_arg14)))

section
variable (V : Valuation τ sig (Elt F)) (r : Ref sig .tc)

theorem kept_transport1 (h : r ∉ transport1_W) : after transport1 V (no_index (Proc.devRef .tc r)) = V (Proc.devRef .tc r) := kept _ V rfl r h
theorem kept_transport2a (h : r ∉ transport2a_W) : after transport2a V (no_index (Proc.devRef .tc r)) = V (Proc.devRef .tc r) := kept _ V rfl r h
theorem kept_transport2b (h : r ∉ transport2b_W) : after transport2b V (no_index (Proc.devRef .tc r)) = V (Proc.devRef .tc r) := kept _ V rfl r h
theorem kept_images (h : r ∉ images_W) : after images V (no_index (Proc.devRef .tc r)) = V (Proc.devRef .tc r) := kept _ V rfl r h
theorem kept_nearest1 (h : r ∉ nearest1_W) : after nearest1 V (no_index (Proc.devRef .tc r)) = V (Proc.devRef .tc r) := kept _ V rfl r h
theorem kept_nearest2 (h : r ∉ nearest2_W) : after nearest2 V (no_index (Proc.devRef .tc r)) = V (Proc.devRef .tc r) := kept _ V rfl r h
theorem kept_index1 (h : r ∉ index1_W) : after index1 V (no_index (Proc.devRef .tc r)) = V (Proc.devRef .tc r) := kept _ V rfl r h
theorem kept_target1 (h : r ∉ target1_W) : after target1 V (no_index (Proc.devRef .tc r)) = V (Proc.devRef .tc r) := kept _ V rfl r h
theorem kept_index2 (h : r ∉ index2_W) : after index2 V (no_index (Proc.devRef .tc r)) = V (Proc.devRef .tc r) := kept _ V rfl r h
theorem kept_target2 (h : r ∉ target2_W) : after target2 V (no_index (Proc.devRef .tc r)) = V (Proc.devRef .tc r) := kept _ V rfl r h
end

/-- The contents of the result buffer after the whole program. -/
theorem ops_result (V : Valuation τ sig (Elt F)) : after ops V (Proc.devRef .tc main_v182) = result V := by
  simp only [ops, after_append]
  rw [after_average, after_target2]
  simp (disch := decide) only [kept_target2, kept_index2]
  rw [after_target1]
  simp (disch := decide) only [kept_target1]
  rw [after_index1]
  simp (disch := decide) only [kept_index1]
  rw [after_nearest2]
  simp (disch := decide) only [kept_nearest2]
  rw [after_nearest1]
  simp (disch := decide) only [kept_nearest1]
  rw [after_images1, after_images2]
  simp (disch := decide) only [kept_images]
  rw [after_transport2]
  simp (disch := decide) only [kept_transport2b, kept_transport2a]
  rw [after_transport1]
  simp (disch := decide) only [kept_transport1]
  rfl

/-- From any memory, every execution of the reference ends with the mean of the two sides in the result and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v182) = result (launchContents m c)
      ∧ ∀ b : Ref sig .tc, b ∉ written → r.2.mem ((c.tc : Thread nD τ).loc b) = m ((c.tc : Thread nD τ).loc b) :=
  (θ_run defs _ _).mono (fun _ h c => ⟨(h c main_v182).trans (ops_result _), fun b hb => (h c b).trans (ops_kept _ b hb)⟩)
    (run_seq scopedRefs_eq scopedSems_eq defs main (fun _ => ops) main_eq (fun _ => ops_sub) m ρ fun _ => ops_fresh)

/-- From any memory, every execution of the reference ends with the arguments unchanged and every semaphore at zero. -/
theorem quiet (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c =>
    ⟨(h c).2 _ (by decide), (h c).2 _ (by decide), (h c).2 _ (by decide), (h c).2 _ (by decide), (h c).2 _ (by decide),
      (h c).2 _ (by decide), (h c).2 _ (by decide), (h c).2 _ (by decide), (h c).2 _ (by decide), (h c).2 _ (by decide),
      (h c).2 _ (by decide), (h c).2 _ (by decide), (h c).2 _ (by decide), (h c).2 _ (by decide), (h c).2 _ (by decide)⟩,
    sem_eq_zero_of_no_sems rfl r.2⟩) (run m ρ)

end Cert.ReferenceIdeal.Stages
-- ==== Proof.KernelBlocks.lean ====
module

public import proofs.«01_k».proof.Proof.KernelStep
public import Idealize.ShloMosaic.Lib.Pipeline.ValueKit
public import Idealize.ShloMosaic.Lib.Pointwise

/-! The blocks of the grid points as pieces of the argument arrays. -/

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.SL.Sem

variable {F : FTy → Type} [FloatOps F]
variable (m : (ℓ : Loc nD τ sig) → Buf (Elt F) ℓ) (c : Dev nD)

/-- An argument array at launch. -/
abbrev arg (r : Ref sig .tc) : Buf (Elt F) ((c : Thread nD τ).loc r) := m ((c : Thread nD τ).loc r)

/-! ## The block indices at a point -/

theorem index_fs : ∀ t : Fin cfg0.N, t.val < 10 → win0_0.index t = ![t.val, 0] :=
  (by decide +kernel : ∀ t : Fin grid0.N, t.val < 10 → win0_0.index t = ![t.val, 0])
theorem index_f1 : ∀ t : Fin cfg0.N, t.val < 10 → win0_1.index t = ![t.val, 0] :=
  (by decide +kernel : ∀ t : Fin grid0.N, t.val < 10 → win0_1.index t = ![t.val, 0])
theorem index_f1' : ∀ t : Fin cfg0.N, 11 ≤ t.val → win0_1.index t = ![t.val - 11, 0] :=
  (by decide +kernel : ∀ t : Fin grid0.N, 11 ≤ t.val → win0_1.index t = ![t.val - 11, 0])
theorem index_f2 : ∀ t : Fin cfg0.N, t.val < 10 → win0_2.index t = ![t.val, 0] :=
  (by decide +kernel : ∀ t : Fin grid0.N, t.val < 10 → win0_2.index t = ![t.val, 0])
theorem index_f2' : ∀ t : Fin cfg0.N, 11 ≤ t.val → win0_2.index t = ![t.val - 11, 0] :=
  (by decide +kernel : ∀ t : Fin grid0.N, 11 ≤ t.val → win0_2.index t = ![t.val - 11, 0])
theorem index_ls : ∀ t : Fin cfg0.N, 11 ≤ t.val → win0_3.index t = ![t.val - 11, 0] :=
  (by decide +kernel : ∀ t : Fin grid0.N, 11 ≤ t.val → win0_3.index t = ![t.val - 11, 0])
theorem index_li1 : ∀ t : Fin cfg0.N, 11 ≤ t.val → win0_4.index t = ![t.val - 11, 0] :=
  (by decide +kernel : ∀ t : Fin grid0.N, 11 ≤ t.val → win0_4.index t = ![t.val - 11, 0])
theorem index_li2 : ∀ t : Fin cfg0.N, 11 ≤ t.val → win0_5.index t = ![t.val - 11, 0] :=
  (by decide +kernel : ∀ t : Fin grid0.N, 11 ≤ t.val → win0_5.index t = ![t.val - 11, 0])
theorem index_x : ∀ (t : Fin cfg0.N) a, win0_6.index t a = 0 := (by decide +kernel : ∀ (t : Fin grid0.N) a, win0_6.index t a = 0)
theorem index_w1 : ∀ (t : Fin cfg0.N) a, win0_7.index t a = 0 := (by decide +kernel : ∀ (t : Fin grid0.N) a, win0_7.index t a = 0)
theorem index_w2 : ∀ (t : Fin cfg0.N) a, win0_8.index t a = 0 := (by decide +kernel : ∀ (t : Fin grid0.N) a, win0_8.index t a = 0)
theorem index_b1 : ∀ (t : Fin cfg0.N) a, win0_9.index t a = 0 := (by decide +kernel : ∀ (t : Fin grid0.N) a, win0_9.index t a = 0)
theorem index_b2 : ∀ (t : Fin cfg0.N) a, win0_10.index t a = 0 := (by decide +kernel : ∀ (t : Fin grid0.N) a, win0_10.index t a = 0)
theorem index_u1 : ∀ (t : Fin cfg0.N) a, win0_11.index t a = 0 := (by decide +kernel : ∀ (t : Fin grid0.N) a, win0_11.index t a = 0)
theorem index_u2 : ∀ (t : Fin cfg0.N) a, win0_12.index t a = 0 := (by decide +kernel : ∀ (t : Fin grid0.N) a, win0_12.index t a = 0)
theorem index_d1 : ∀ (t : Fin cfg0.N) a, win0_13.index t a = 0 := (by decide +kernel : ∀ (t : Fin grid0.N) a, win0_13.index t a = 0)
theorem index_d2 : ∀ (t : Fin cfg0.N) a, win0_14.index t a = 0 := (by decide +kernel : ∀ (t : Fin grid0.N) a, win0_14.index t a = 0)

/-! ## The buffers that the reshapes before the launch fill -/

theorem V_li1 : V m c main_call0_v0 = shapeCast S20000x1 (arg m c main_arg7) shapeCasts_S20000_S20000x1 := by
  entry_read
  rfl
theorem V_li2 : V m c main_call0_v1 = shapeCast S20000x1 (arg m c main_arg8) shapeCasts_S20000_S20000x1 := by
  entry_read
  rfl
theorem V_b1 : V m c main_call0_v2 = shapeCast S32x1 (arg m c main_arg12) shapeCasts_S32_S32x1 := by
  entry_read
  rfl
theorem V_b2 : V m c main_call0_v3 = shapeCast S32x1 (arg m c main_arg14) shapeCasts_S32_S32x1 := by
  entry_read
  rfl

theorem column_at {α : Type} (x : S20000.Idx → α) (n : Fin 20000) :
    shapeCast S20000x1 x shapeCasts_S20000_S20000x1 (ix2 n 0) = x (ix1 n) := by
  pointwise
theorem column32_at {α : Type} (x : S32.Idx → α) (n : Fin 32) : shapeCast S32x1 x shapeCasts_S32_S32x1 (ix2 n 0) = x (ix1 n) := by
  pointwise

/-! ## The blocks that are pieces of rows -/

/-- Row `n` of block `q`. -/
def rowOf (q : Fin 10) (n : Fin 2000) : Fin 20000 := ⟨q.val * 2000 + n.val, by omega⟩

/-- Where row `n` and column `k` of block `q` lie in the array. -/
theorem place {d : ℕ} {i : Fin 2 → ℕ} {q : Fin 10} (e : i = ![q.val, 0]) (n : Fin 2000) (k : Fin d) :
    i 0 * 2000 + n.val = (rowOf q n).val ∧ i 1 * d + k.val = k.val := by
  subst e
  exact ⟨rfl, by show 0 * d + k.val = k.val; omega⟩

section
variable {t : Fin cfg0.N} {q : Fin 10}

theorem fs_at (e : win0_0.index t = ![q.val, 0]) (n : Fin 2000) (k : Fin 64) :
    (insAt m c t).fs (ix2 n k) = arg m c main_arg1 (ix2 (rowOf q n) k) := by
  refine Eq.trans (b := V m c main_arg1 (((cfg0.win 0).blk t).view.emb (ix2 n k))) rfl ?_
  rw [V_main_arg1]
  refine congrArg _ (funext fun a => Fin.ext ((Pipeline.Window.rect_emb_val win0_0 t (ix2 n k) a rfl).trans ?_))
  match a with
  | ⟨0, _⟩ => exact (place e n k).1
  | ⟨1, _⟩ => exact (place e n k).2

theorem f1_at (e : win0_1.index t = ![q.val, 0]) (n : Fin 2000) (k : Fin 64) :
    (insAt m c t).f1 (ix2 n k) = arg m c main_arg3 (ix2 (rowOf q n) k) := by
  refine Eq.trans (b := V m c main_arg3 (((cfg0.win 1).blk t).view.emb (ix2 n k))) rfl ?_
  rw [V_main_arg3]
  refine congrArg _ (funext fun a => Fin.ext ((Pipeline.Window.rect_emb_val win0_1 t (ix2 n k) a rfl).trans ?_))
  match a with
  | ⟨0, _⟩ => exact (place e n k).1
  | ⟨1, _⟩ => exact (place e n k).2

theorem f2_at (e : win0_2.index t = ![q.val, 0]) (n : Fin 2000) (k : Fin 64) :
    (insAt m c t).f2 (ix2 n k) = arg m c main_arg4 (ix2 (rowOf q n) k) := by
  refine Eq.trans (b := V m c main_arg4 (((cfg0.win 2).blk t).view.emb (ix2 n k))) rfl ?_
  rw [V_main_arg4]
  refine congrArg _ (funext fun a => Fin.ext ((Pipeline.Window.rect_emb_val win0_2 t (ix2 n k) a rfl).trans ?_))
  match a with
  | ⟨0, _⟩ => exact (place e n k).1
  | ⟨1, _⟩ => exact (place e n k).2

theorem ls_at (e : win0_3.index t = ![q.val, 0]) (n : Fin 2000) (k : Fin 32) :
    (insAt m c t).ls (ix2 n k) = arg m c main_arg2 (ix2 (rowOf q n) k) := by
  refine Eq.trans (b := V m c main_arg2 (((cfg0.win 3).blk t).view.emb (ix2 n k))) rfl ?_
  rw [V_main_arg2]
  refine congrArg _ (funext fun a => Fin.ext ((Pipeline.Window.rect_emb_val win0_3 t (ix2 n k) a rfl).trans ?_))
  match a with
  | ⟨0, _⟩ => exact (place e n k).1
  | ⟨1, _⟩ => exact (place e n k).2

theorem li1_at (e : win0_4.index t = ![q.val, 0]) (n : Fin 2000) : (insAt m c t).li1 (ix2 n 0) = arg m c main_arg7 (ix1 (rowOf q n)) := by
  refine Eq.trans (b := V m c main_call0_v0 (((cfg0.win 4).blk t).view.emb (ix2 n 0))) rfl ?_
  rw [V_li1]
  refine Eq.trans (congrArg _ (funext fun a => Fin.ext ((Pipeline.Window.rect_emb_val win0_4 t (ix2 n 0) a rfl).trans ?_))) (column_at _ (rowOf q n))
  match a with
  | ⟨0, _⟩ => exact (place e n (0 : Fin 1)).1
  | ⟨1, _⟩ => exact (place e n (0 : Fin 1)).2

theorem li2_at (e : win0_5.index t = ![q.val, 0]) (n : Fin 2000) : (insAt m c t).li2 (ix2 n 0) = arg m c main_arg8 (ix1 (rowOf q n)) := by
  refine Eq.trans (b := V m c main_call0_v1 (((cfg0.win 5).blk t).view.emb (ix2 n 0))) rfl ?_
  rw [V_li2]
  refine Eq.trans (congrArg _ (funext fun a => Fin.ext ((Pipeline.Window.rect_emb_val win0_5 t (ix2 n 0) a rfl).trans ?_))) (column_at _ (rowOf q n))
  match a with
  | ⟨0, _⟩ => exact (place e n (0 : Fin 1)).1
  | ⟨1, _⟩ => exact (place e n (0 : Fin 1)).2

end

/-! ## The blocks that are whole arrays -/

section
variable (t : Fin cfg0.N)

theorem x_at : (insAt m c t).x = arg m c main_arg0 := by
  funext y
  refine Eq.trans (b := V m c main_arg0 (((cfg0.win 6).blk t).view.emb y)) rfl ?_
  rw [V_main_arg0]
  exact congrArg _ (funext fun a => Fin.ext (Pipeline.Window.rect_emb_val_of_index_zero win0_6 t a (index_x t a) y))

theorem w1_at : (insAt m c t).w1 = arg m c main_arg11 := by
  funext y
  refine Eq.trans (b := V m c main_arg11 (((cfg0.win 7).blk t).view.emb y)) rfl ?_
  rw [V_main_arg11]
  exact congrArg _ (funext fun a => Fin.ext (Pipeline.Window.rect_emb_val_of_index_zero win0_7 t a (index_w1 t a) y))

theorem w2_at : (insAt m c t).w2 = arg m c main_arg13 := by
  funext y
  refine Eq.trans (b := V m c main_arg13 (((cfg0.win 8).blk t).view.emb y)) rfl ?_
  rw [V_main_arg13]
  exact congrArg _ (funext fun a => Fin.ext (Pipeline.Window.rect_emb_val_of_index_zero win0_8 t a (index_w2 t a) y))

theorem b1_at (k : Fin 32) : (insAt m c t).b1 (ix2 k 0) = arg m c main_arg12 (ix1 k) := by
  refine Eq.trans (b := V m c main_call0_v2 (((cfg0.win 9).blk t).view.emb (ix2 k 0))) rfl ?_
  rw [V_b1]
  exact Eq.trans (congrArg _ (funext fun a => Fin.ext (Pipeline.Window.rect_emb_val_of_index_zero win0_9 t a (index_b1 t a) (ix2 k 0)))) (column32_at _ k)

theorem b2_at (k : Fin 32) : (insAt m c t).b2 (ix2 k 0) = arg m c main_arg14 (ix1 k) := by
  refine Eq.trans (b := V m c main_call0_v3 (((cfg0.win 10).blk t).view.emb (ix2 k 0))) rfl ?_
  rw [V_b2]
  exact Eq.trans (congrArg _ (funext fun a => Fin.ext (Pipeline.Window.rect_emb_val_of_index_zero win0_10 t a (index_b2 t a) (ix2 k 0)))) (column32_at _ k)

theorem u1_at : (insAt m c t).u1 = arg m c main_arg5 := by
  funext y
  refine Eq.trans (b := V m c main_arg5 (((cfg0.win 11).blk t).view.emb y)) rfl ?_
  rw [V_main_arg5]
  exact congrArg _ (funext fun a => Fin.ext (Pipeline.Window.rect_emb_val_of_index_zero win0_11 t a (index_u1 t a) y))

theorem u2_at : (insAt m c t).u2 = arg m c main_arg6 := by
  funext y
  refine Eq.trans (b := V m c main_arg6 (((cfg0.win 12).blk t).view.emb y)) rfl ?_
  rw [V_main_arg6]
  exact congrArg _ (funext fun a => Fin.ext (Pipeline.Window.rect_emb_val_of_index_zero win0_12 t a (index_u2 t a) y))

theorem d1_at : (insAt m c t).d1 = arg m c main_arg9 := by
  funext y
  refine Eq.trans (b := V m c main_arg9 (((cfg0.win 13).blk t).view.emb y)) rfl ?_
  rw [V_main_arg9]
  exact congrArg _ (funext fun a => Fin.ext (Pipeline.Window.rect_emb_val_of_index_zero win0_13 t a (index_d1 t a) y))

theorem d2_at : (insAt m c t).d2 = arg m c main_arg10 := by
  funext y
  refine Eq.trans (b := V m c main_arg10 (((cfg0.win 14).blk t).view.emb y)) rfl ?_
  rw [V_main_arg10]
  exact congrArg _ (funext fun a => Fin.ext (Pipeline.Window.rect_emb_val_of_index_zero win0_14 t a (index_d2 t a) y))

end

end Cert.KernelIdeal.Run
-- ==== Proof.Weights.lean ====
module

public import Idealize.ShloMosaic.PureOps.Ideal.Laws
public import Idealize.ShloMosaic.Lib.Pointwise

/-! Exponential weights over the extended reals: a Gaussian weight splits into three factors, and a factor
    common to every weight leaves a weighted average unchanged. -/

@[expose] public section

noncomputable section

namespace Cert.Weights

open Idealize.ShloMosaic

/-- The program's constant two. -/
theorem two_eq : Ideal.ofBits FTy.f32 0x40000000#32 = ((2 : ℝ) : EReal) := by
  simp only [Ideal.ofBits, Ideal.ieee]
  simp
  rw [← EReal.coe_mul]; congr 1; norm_num
/-- The program's constant one half. -/
theorem half_eq : Ideal.ofBits FTy.f32 0x3F000000#32 = ((1 / 2 : ℝ) : EReal) := by
  simp only [Ideal.ofBits, Ideal.ieee]
  simp
  rw [← EReal.coe_mul]; congr 1; norm_num
/-- The program's constant infinity. -/
theorem top_eq : Ideal.ofBits FTy.f32 0x7F800000#32 = ⊤ := by
  simp [Ideal.ofBits, Ideal.ieee]
/-- The kernel's constant is the negation of the reference's. -/
theorem neg_rate : Ideal.ofBits FTy.f32 0xBC23D70A#32 = -Ideal.ofBits FTy.f32 0x3C23D70A#32 := by
  simp [Ideal.ofBits, Ideal.ieee]

/-- The exponential of a sum with a finite term is the product of the exponentials. -/
theorem exp_coe_add (a : ℝ) (t : EReal) : Ideal.exp ((a : EReal) + t) = Ideal.exp (a : EReal) * Ideal.exp t := by
  induction t with
  | bot => simp
  | top => simp [EReal.coe_mul_top_of_pos (Real.exp_pos a)]
  | coe t => rw [← EReal.coe_add, Ideal.exp_coe, Ideal.exp_coe, Ideal.exp_coe, ← EReal.coe_mul, Real.exp_add]

/-- A positive finite factor distributes over a finite sum. -/
theorem coe_mul_sum {ι : Type} (c : ℝ) (hc : 0 < c) (s : Finset ι) (g : ι → EReal) :
    ∑ i ∈ s, (c : EReal) * g i = (c : EReal) * ∑ i ∈ s, g i := by
  classical
  induction s using Finset.induction_on with
  | empty => simp
  | insert i s hi ih =>
    rw [Finset.sum_insert hi, Finset.sum_insert hi, ih,
      EReal.left_distrib_of_nonneg_of_ne_top (EReal.coe_nonneg.mpr hc.le) (EReal.coe_ne_top c)]

/-- A positive finite factor cancels in a quotient. -/
theorem div_coe_mul (c : ℝ) (hc : 0 < c) (a b : EReal) :
    Ideal.div ((c : EReal) * a) ((c : EReal) * b) = Ideal.div a b := by
  have hc0 : (c : EReal) ≠ 0 := by exact_mod_cast hc.ne'
  have hp : (0 : EReal) < (c : EReal) := by exact_mod_cast hc
  unfold Ideal.div
  by_cases hb : b = 0
  · subst hb
    rw [mul_zero, if_pos rfl, if_pos rfl]
    have : 0 < (c : EReal) * a ↔ 0 < a := by
      induction a with
      | bot => simp [EReal.coe_mul_bot_of_pos hc]
      | top => simp [EReal.coe_mul_top_of_pos hc]
      | coe a => rw [← EReal.coe_mul]; norm_cast; exact mul_pos_iff_of_pos_left hc
    simp only [this]
  · rw [if_neg hb, if_neg (mul_ne_zero hc0 hb), EReal.mul_inv]
    have h1 : (c : EReal) * (c : EReal)⁻¹ = 1 := by
      rw [← EReal.coe_inv, ← EReal.coe_mul, mul_inv_cancel₀ hc.ne', EReal.coe_one]
    calc (c : EReal) * a * ((c : EReal)⁻¹ * b⁻¹) = ((c : EReal) * (c : EReal)⁻¹) * (a * b⁻¹) := by ac_rfl
      _ = a * b⁻¹ := by rw [h1, one_mul]

/-- A sum of finite terms is finite. -/
theorem coe_sum {ι : Type} (s : Finset ι) (g : ι → ℝ) : ∑ i ∈ s, ((g i : ℝ) : EReal) = ((∑ i ∈ s, g i : ℝ) : EReal) := by
  classical
  induction s using Finset.induction_on with
  | empty => simp
  | insert i s hi ih => rw [Finset.sum_insert hi, Finset.sum_insert hi, ih, EReal.coe_add]

/-- Every entry is finite. -/
def IsReal {ι : Type} (f : ι → EReal) : Prop := ∃ g : ι → ℝ, ∀ i, f i = (g i : EReal)

section
variable {K : Type} [Fintype K]

/-- The squared norm. -/
def sq (f : K → EReal) : EReal := ∑ k, f k * f k

/-- The distance of two points, as the reference computes it. -/
def dist (f x : K → EReal) : EReal :=
  Ideal.sqrt (max 0 (sq f + sq x - Ideal.ofBits FTy.f32 0x40000000#32 * ∑ k, f k * x k))

/-- The part of the weight that belongs to the sample. -/
def own (f : K → EReal) : EReal := Ideal.exp (0 - sq f)

/-- The part of the weight that belongs to the sample and the doubled query, over a further exponent. -/
def cross (f x : K → EReal) (t : EReal) : EReal :=
  Ideal.exp (∑ k, f k * (Ideal.ofBits FTy.f32 0x40000000#32 * x k) + t)

/-- The part of the weight that belongs to the query. -/
def common (x : K → EReal) : ℝ := Real.exp (-∑ k, (x k).toReal * (x k).toReal)

theorem common_pos (x : K → EReal) : 0 < common x := Real.exp_pos _

theorem sq_coe (g : K → ℝ) : sq (fun k => (g k : EReal)) = ((∑ k, g k * g k : ℝ) : EReal) := by
  unfold sq; rw [← coe_sum]; simp

/-- The squared distance of two finite points. -/
theorem dist_mul_self (g y : K → ℝ) : dist (fun k => (g k : EReal)) (fun k => (y k : EReal)) * dist (fun k => (g k : EReal)) (fun k => (y k : EReal))
    = ((∑ k, g k * g k + ∑ k, y k * y k - 2 * ∑ k, g k * y k : ℝ) : EReal) := by
  have hd : (0 : ℝ) ≤ ∑ k, g k * g k + ∑ k, y k * y k - 2 * ∑ k, g k * y k := by
    have : ∑ k, g k * g k + ∑ k, y k * y k - 2 * ∑ k, g k * y k = ∑ k, (g k - y k) ^ 2 := by
      rw [Finset.mul_sum, ← Finset.sum_add_distrib, ← Finset.sum_sub_distrib]
      exact Finset.sum_congr rfl fun k _ => by ring
    rw [this]; exact Finset.sum_nonneg fun k _ => sq_nonneg _
  unfold dist
  rw [sq_coe, sq_coe, two_eq]
  simp only [← EReal.coe_mul]
  rw [coe_sum, ← EReal.coe_mul, ← EReal.coe_add, ← EReal.coe_sub, max_eq_right (by exact_mod_cast hd), Ideal.sqrt_coe,
    if_neg (not_lt.mpr hd), ← EReal.coe_mul, Real.mul_self_sqrt hd]

/-- A Gaussian weight with a further exponent splits into the query's part, the sample's part and the cross part. -/
theorem weight_split (f x : K → EReal) (hf : IsReal f) (hx : IsReal x) (t : EReal) :
    Ideal.exp (-(dist f x * dist f x) - t) = (common x : EReal) * (own f * cross f x (-t)) := by
  obtain ⟨g, hg⟩ := hf
  obtain ⟨y, hy⟩ := hx
  obtain rfl : f = fun k => (g k : EReal) := funext hg
  obtain rfl : x = fun k => (y k : EReal) := funext hy
  have hc : Ideal.exp ((-∑ k, y k * y k : ℝ) : EReal) = (common (fun k => (y k : EReal)) : EReal) := by
    rw [Ideal.exp_coe]; unfold common; simp only [EReal.toReal_coe]
  have ho : own (fun k => (g k : EReal)) = Ideal.exp ((-∑ k, g k * g k : ℝ) : EReal) := by
    unfold own; rw [sq_coe, zero_sub, ← EReal.coe_neg]
  have hx : (∑ k, (g k : EReal) * (Ideal.ofBits FTy.f32 0x40000000#32 * (y k : EReal))) = ((2 * ∑ k, g k * y k : ℝ) : EReal) := by
    rw [two_eq, Finset.mul_sum, ← coe_sum]
    exact Finset.sum_congr rfl fun k _ => by rw [← EReal.coe_mul, ← EReal.coe_mul]; congr 1; ring
  rw [dist_mul_self, sub_eq_add_neg, ← EReal.coe_neg, exp_coe_add]
  unfold cross
  rw [hx, exp_coe_add, ho, ← hc, ← mul_assoc, ← mul_assoc]
  congr 1
  rw [Ideal.exp_coe, Ideal.exp_coe, Ideal.exp_coe, Ideal.exp_coe, ← EReal.coe_mul, ← EReal.coe_mul, ← Real.exp_add, ← Real.exp_add]
  congr 2; ring

/-- The cross part of finite points is finite and positive. -/
theorem cross_coe (f x : K → EReal) (hf : IsReal f) (hx : IsReal x) : ∃ r : ℝ, 0 < r ∧ cross f x 0 = (r : EReal) := by
  obtain ⟨g, hg⟩ := hf
  obtain ⟨y, hy⟩ := hx
  refine ⟨Real.exp (∑ k, g k * (2 * y k)), Real.exp_pos _, ?_⟩
  unfold cross
  simp only [hg, hy, two_eq, ← EReal.coe_mul]
  rw [coe_sum, add_zero, Ideal.exp_coe]

/-- The sample's part of a finite point is finite and positive. -/
theorem own_coe (f : K → EReal) (hf : IsReal f) : ∃ r : ℝ, 0 < r ∧ own f = (r : EReal) := by
  obtain ⟨g, hg⟩ := hf
  refine ⟨Real.exp (-∑ k, g k * g k), Real.exp_pos _, ?_⟩
  obtain rfl : f = fun k => (g k : EReal) := funext hg
  unfold own
  rw [sq_coe, zero_sub, ← EReal.coe_neg, Ideal.exp_coe]

end

section
variable {N K : Type} [Fintype N] [Fintype K]

/-- The average of `a` under Gaussian weights with further exponents is the average under the weights without
    the query's part. -/
theorem average_eq (f : N → K → EReal) (x : K → EReal) (hf : ∀ n, IsReal (f n)) (hx : IsReal x) (t : N → EReal) (a : N → EReal) :
    Ideal.div (∑ n, a n * Ideal.exp (-(dist (f n) x * dist (f n) x) - t n)) (∑ n, Ideal.exp (-(dist (f n) x * dist (f n) x) - t n))
      = Ideal.div (∑ n, (a n * own (f n)) * cross (f n) x (-t n)) (∑ n, own (f n) * cross (f n) x (-t n)) := by
  conv_rhs => rw [← div_coe_mul (common x) (common_pos x)]
  rw [← coe_mul_sum _ (common_pos x), ← coe_mul_sum _ (common_pos x)]
  refine congrArg₂ Ideal.div (Finset.sum_congr rfl fun n _ => ?_) (Finset.sum_congr rfl fun n _ => ?_)
  · rw [weight_split _ _ (hf n) hx]; ac_rfl
  · rw [weight_split _ _ (hf n) hx]

/-- An average of finite values under finite positive weights is finite. -/
theorem average_fin [Nonempty N] (f : N → K → EReal) (x : K → EReal) (hf : ∀ n, IsReal (f n)) (hx : IsReal x) {C : Type} (a : N → C → EReal)
    (ha : ∀ n, IsReal (a n)) :
    IsReal fun c => Ideal.div (∑ n, (a n c * own (f n)) * cross (f n) x 0) (∑ n, own (f n) * cross (f n) x 0) := by
  choose o ho hO using fun n => own_coe (f n) (hf n)
  choose k hk hK using fun n => cross_coe (f n) x (hf n) hx
  choose g hg using ha
  have hpos : 0 < ∑ n, o n * k n := Finset.sum_pos (fun n _ => mul_pos (ho n) (hk n)) Finset.univ_nonempty
  refine ⟨fun c => (∑ n, g n c * o n * k n) * (1 / ∑ n, o n * k n), fun c => ?_⟩
  simp only [hO, hK, hg, ← EReal.coe_mul]
  rw [coe_sum, coe_sum, Ideal.div_coe hpos.ne', ← EReal.coe_mul]

end

end Cert.Weights
-- ==== Proof.Nearest.lean ====
module

public import Idealize.ShloMosaic.PureOps.Ideal.Laws
public import Idealize.ShloMosaic.Lib.Pointwise
public import Idealize.ShloMosaic.Lib.SortNet.Extract

/-! The first least of a hundred scores: as the least index among those whose score is the minimum, and as the
    left fold of pairs that keeps the lesser one. -/

@[expose] public section

noncomputable section

namespace Cert.Nearest

open Idealize.ShloMosaic

/-- `i` is the first index whose score is least. -/
def IsFirst (s : Fin 100 → EReal) (i : Fin 100) : Prop := (∀ l, s i ≤ s l) ∧ ∀ l, l < i → s i < s l

/-- The scores have a first least one. -/
theorem exists_first (s : Fin 100 → EReal) : ∃ i, IsFirst s i := by
  obtain ⟨j, hj⟩ := Finite.exists_min s
  have hne : (Finset.univ.filter fun l => s l = s j).Nonempty := ⟨j, by simp⟩
  have hm := Finset.min'_mem _ hne
  rw [Finset.mem_filter] at hm
  refine ⟨Finset.min' _ hne, fun l => by rw [hm.2]; exact hj l, fun l hl => ?_⟩
  rw [hm.2]
  refine lt_of_le_of_ne (hj l) fun e => absurd (Finset.min'_le _ l (by simp [e])) (not_le.mpr hl)

/-- There is only one first least index. -/
theorem first_unique {s : Fin 100 → EReal} {i j : Fin 100} (hi : IsFirst s i) (hj : IsFirst s j) : i = j := by
  rcases lt_trichotomy i j with h | h | h
  · exact absurd (hj.2 i h) (not_lt.mpr (hi.1 j))
  · exact h
  · exact absurd (hi.2 j h) (not_lt.mpr (hj.1 i))

/-- A strictly monotone change of the scores keeps the first least index. -/
theorem first_map {s : Fin 100 → EReal} {i : Fin 100} (g : EReal → EReal) (hg : ∀ a b, 0 ≤ a → a < b → g a < g b)
    (h0 : ∀ l, 0 ≤ s l) (hi : IsFirst s i) : IsFirst (fun l => g (s l)) i := by
  refine ⟨fun l => ?_, fun l hl => hg _ _ (h0 i) (hi.2 l hl)⟩
  rcases (hi.1 l).eq_or_lt with h | h
  · exact le_of_eq (congrArg g h)
  · exact (hg _ _ (h0 i) h).le

/-- The square root is strictly monotone from zero on. -/
theorem sqrt_strict (a b : EReal) (ha : 0 ≤ a) (h : a < b) : Ideal.sqrt a < Ideal.sqrt b := by
  induction a with
  | bot => simp at ha
  | top => simp at h
  | coe a =>
    have ha' : 0 ≤ a := by exact_mod_cast ha
    rw [Ideal.sqrt_coe, if_neg (not_lt.mpr ha')]
    induction b with
    | bot => simp at h
    | top => simp
    | coe b =>
      have hab : a < b := by exact_mod_cast h
      rw [Ideal.sqrt_coe, if_neg (not_lt.mpr (ha'.trans hab.le))]
      exact_mod_cast Real.sqrt_lt_sqrt ha' hab

/-- The least index among those whose score is the minimum. -/
def firstAt (s : Fin 100 → EReal) : BitVec 32 :=
  Finset.fold IntOp.minsi 2147483647#32
    (fun l : Fin 100 => if s l = Finset.fold min ⊤ s Finset.univ then BitVec.ofNat 32 l.val else 100#32) Finset.univ

theorem toInt_ofNat (i : Fin 100) : (BitVec.ofNat 32 i.val).toInt = i.val := by
  rw [BitVec.toInt_eq_toNat_of_lt] <;> simp <;> omega

/-- It is the first least index. -/
theorem firstAt_eq (s : Fin 100 → EReal) (i : Fin 100) (hi : IsFirst s i) : firstAt s = BitVec.ofNat 32 i.val := by
  have hmin : Finset.fold min ⊤ s Finset.univ = s i := by
    refine le_antisymm (Finset.fold_min_le _ |>.mpr (.inr ⟨i, Finset.mem_univ _, le_rfl⟩)) ?_
    exact Finset.le_fold_min _ |>.mpr ⟨le_top, fun l _ => hi.1 l⟩
  unfold firstAt
  rw [hmin]
  have key := fun c : BitVec 32 => Finset.fold_op_rel_iff_and (op := IntOp.minsi) (r := fun a b : BitVec 32 => a.toInt ≤ b.toInt)
    (fun {x y z} => by simp only [SortNet.toInt_minsi]; exact le_min_iff) (b := 2147483647#32) (c := c) (s := (Finset.univ : Finset (Fin 100)))
    (f := fun l : Fin 100 => if s l = s i then BitVec.ofNat 32 l.val else 100#32)
  apply BitVec.eq_of_toInt_eq
  apply le_antisymm
  · have := ((key _).mp le_rfl).2 i (Finset.mem_univ _)
    rwa [if_pos rfl] at this
  · refine (key _).mpr ⟨?_, fun l _ => ?_⟩
    · rw [toInt_ofNat]; have := i.isLt; simp; omega
    · rw [toInt_ofNat]
      split
      · rename_i h
        rw [toInt_ofNat]
        have : ¬ l < i := fun hl => absurd (hi.2 l hl) (by rw [h]; exact lt_irrefl _)
        have := not_lt.mp this
        exact_mod_cast this
      · simp

/-- Whether a pair's score is less, or the scores agree and its index is no greater. -/
def Before (p q : EReal × BitVec 32) : Prop := p.1 < q.1 ∨ (p.1 = q.1 ∧ p.2.toInt ≤ q.2.toInt)

theorem Before.refl (p : EReal × BitVec 32) : Before p p := .inr ⟨rfl, le_rfl⟩

theorem Before.trans {p q r : EReal × BitVec 32} (h : Before p q) (k : Before q r) : Before p r := by
  rcases h with h | ⟨h, h'⟩ <;> rcases k with k | ⟨k, k'⟩
  · exact .inl (h.trans k)
  · exact .inl (k ▸ h)
  · exact .inl (h ▸ k)
  · exact .inr ⟨h.trans k, h'.trans k'⟩

/-- The left fold of an operation that keeps one of its operands, before both, keeps one of the list's
    elements, before all of them. -/
theorem foldl_before (op : EReal × BitVec 32 → EReal × BitVec 32 → EReal × BitVec 32)
    (hop : ∀ p q, (op p q = p ∨ op p q = q) ∧ Before (op p q) p ∧ Before (op p q) q) :
    ∀ (L : List (EReal × BitVec 32)) (b : EReal × BitVec 32),
      L.foldl op b ∈ b :: L ∧ ∀ q ∈ b :: L, Before (L.foldl op b) q
  | [], b => ⟨by simp, by simp [Before.refl]⟩
  | a :: L, b => by
    obtain ⟨hm, hb⟩ := foldl_before op hop L (op b a)
    obtain ⟨hc, h1, h2⟩ := hop b a
    rw [List.foldl_cons]
    refine ⟨?_, fun q hq => ?_⟩
    · rcases List.mem_cons.mp hm with h | h
      · rw [h]; rcases hc with h | h <;> rw [h] <;> simp
      · simp [h]
    · rcases List.mem_cons.mp hq with rfl | hq
      · exact (hb _ (by simp)).trans h1
      · rcases List.mem_cons.mp hq with rfl | hq
        · exact (hb _ (by simp)).trans h2
        · exact hb q (by simp [hq])

/-- So the fold over the scores paired with their indices, from infinity and index zero, keeps the first least
    index. -/
theorem foldl_first (op : EReal × BitVec 32 → EReal × BitVec 32 → EReal × BitVec 32)
    (hop : ∀ p q, (op p q = p ∨ op p q = q) ∧ Before (op p q) p ∧ Before (op p q) q)
    (s : Fin 100 → EReal) (L : List (EReal × BitVec 32)) (hL : ∀ p, p ∈ L ↔ ∃ l : Fin 100, p = (s l, BitVec.ofNat 32 l.val)) :
    ∃ i, IsFirst s i ∧ (L.foldl op (⊤, 0#32)).2 = BitVec.ofNat 32 i.val := by
  obtain ⟨hm, hb⟩ := foldl_before op hop L (⊤, 0#32)
  have hat : ∃ i : Fin 100, L.foldl op (⊤, 0#32) = (s i, BitVec.ofNat 32 i.val) := by
    rcases List.mem_cons.mp hm with h | h
    · refine ⟨0, ?_⟩
      have := hb (s 0, BitVec.ofNat 32 0) (List.mem_cons_of_mem _ ((hL _).mpr ⟨0, rfl⟩))
      rw [h] at this ⊢
      rcases this with h | ⟨h, -⟩
      · exact absurd h (not_lt.mpr le_top)
      · exact Prod.ext h rfl
    · exact (hL _).mp h
  obtain ⟨i, hi⟩ := hat
  refine ⟨i, ⟨fun l => ?_, fun l hl => ?_⟩, by rw [hi]⟩
  · have := hb (s l, BitVec.ofNat 32 l.val) (List.mem_cons_of_mem _ ((hL _).mpr ⟨l, rfl⟩))
    rw [hi] at this
    rcases this with h | ⟨h, -⟩
    · exact h.le
    · exact le_of_eq h
  · have := hb (s l, BitVec.ofNat 32 l.val) (List.mem_cons_of_mem _ ((hL _).mpr ⟨l, rfl⟩))
    rw [hi] at this
    rcases this with h | ⟨-, h⟩
    · exact h
    · rw [toInt_ofNat, toInt_ofNat] at h
      exact absurd (show i.val ≤ l.val by exact_mod_cast h) (not_le.mpr hl)

/-- The kernel's indicator of one label. -/
def onehot (a b : BitVec 32) : EReal := FloatOps.sitofp (F := Ideal) .f32 (BitVec.setWidth 32 (IntOp.cmpi .eq a b))

theorem onehot_self (a : BitVec 32) : onehot a a = 1 := by
  have h : BitVec.setWidth 32 (IntOp.cmpi .eq a a) = 1#32 := by simp [IntOp.cmpi]
  unfold onehot; rw [h]
  show (((1#32).toInt : ℝ) : EReal) = 1
  simp

theorem onehot_ne {a b : BitVec 32} (h : a ≠ b) : onehot a b = 0 := by
  have h : BitVec.setWidth 32 (IntOp.cmpi .eq a b) = 0#32 := by
    have : (a == b) = false := by simpa using h
    simp [IntOp.cmpi, this]
  unfold onehot; rw [h]
  show (((0#32).toInt : ℝ) : EReal) = 0
  simp

theorem ofNat_inj {i j : Fin 100} (h : BitVec.ofNat 32 i.val = BitVec.ofNat 32 j.val) : i = j := by
  have := congrArg BitVec.toInt h
  rw [toInt_ofNat, toInt_ofNat] at this
  exact Fin.ext (by exact_mod_cast this)

/-- A combination with an indicator as weights is the one entry. -/
theorem sum_onehot_right (g : Fin 100 → EReal) (i : Fin 100) :
    ∑ l : Fin 100, g l * onehot (BitVec.ofNat 32 l.val) (BitVec.ofNat 32 i.val) = g i := by
  rw [Finset.sum_eq_single i, onehot_self, mul_one]
  · intro l _ hl; rw [onehot_ne fun h => hl (ofNat_inj h), mul_zero]
  · simp

/-- The same with the indicator on the left. -/
theorem sum_onehot_left (g : Fin 100 → EReal) (i : Fin 100) :
    ∑ l : Fin 100, onehot (BitVec.ofNat 32 i.val) (BitVec.ofNat 32 l.val) * g l = g i := by
  rw [Finset.sum_eq_single i, onehot_self, one_mul]
  · intro l _ hl; rw [onehot_ne fun h => hl (ofNat_inj h).symm, zero_mul]
  · simp

/-- The squared distance of an image to a label, cut off below at zero, as the kernel computes it. -/
def score (y : Fin 32 → EReal) (u : Fin 100 → Fin 32 → EReal) (l : Fin 100) : EReal :=
  max (∑ k, u l k * u l k - Ideal.ofBits FTy.f32 0x40000000#32 * ∑ k, u l k * y k + ∑ k, y k * y k) 0

/-- The reference's distance is the square root of the kernel's score. -/
theorem sqrt_score (y : Fin 32 → EReal) (u : Fin 100 → Fin 32 → EReal) (l : Fin 100) :
    Ideal.sqrt (max 0 (∑ k, y k * y k + ∑ k, u l k * u l k - Ideal.ofBits FTy.f32 0x40000000#32 * ∑ k, y k * u l k))
      = Ideal.sqrt (score y u l) := by
  unfold score
  rw [max_comm]
  congr 2
  simp only [sub_eq_add_neg, mul_comm (y _)]
  ac_rfl

theorem score_nonneg (y : Fin 32 → EReal) (u : Fin 100 → Fin 32 → EReal) (l : Fin 100) : 0 ≤ score y u l := le_max_right _ _

/-- The index of the nearest label. -/
def pick (y : Fin 32 → EReal) (u : Fin 100 → Fin 32 → EReal) : Fin 100 := (exists_first (score y u)).choose

/-- The kernel's first least index is the nearest label's. -/
theorem firstAt_score (y : Fin 32 → EReal) (u : Fin 100 → Fin 32 → EReal) :
    firstAt (score y u) = BitVec.ofNat 32 (pick y u).val := firstAt_eq _ _ (exists_first (score y u)).choose_spec

/-- A first least index of the reference's distances is the nearest label's. -/
theorem pick_eq {y : Fin 32 → EReal} {u : Fin 100 → Fin 32 → EReal} {i : Fin 100}
    (h : IsFirst (fun l => Ideal.sqrt (score y u l)) i) : i = pick y u :=
  first_unique h (first_map _ sqrt_strict (score_nonneg y u) (exists_first (score y u)).choose_spec)

end Cert.Nearest
-- ==== Proof.KernelPay.lean ====
module

public import proofs.«01_k».proof.Proof.Gen.KernelIdeal.Skeleton
public import proofs.«01_k».proof.Proof.Weights
public import proofs.«01_k».proof.Proof.Nearest
public import Idealize.ShloMosaic.Lib.Pointwise

/-! The kernel's stored values read at an index. -/

@[expose] public section

set_option maxRecDepth 16384

noncomputable section

namespace Cert.KernelIdeal.Pay

open Cert.KernelIdeal Cert.KernelIdeal.Gen Cert.Weights Cert.Nearest
open Idealize.ShloMosaic Idealize.ShloMosaic.TcCoe Idealize.SL.Sem

/-- Row `r` of a table of 64 columns. -/
abbrev row {n d : ℕ} (f : FVec Ideal ⟨2, ![n, d]⟩ .f32) (r : Fin n) : Fin d → EReal := fun k => f (ix2 r k)

/-- Column `b` of a table. -/
abbrev col {n d : ℕ} (f : FVec Ideal ⟨2, ![n, d]⟩ .f32) (b : Fin d) : Fin n → EReal := fun k => f (ix2 k b)

/-- The queries are stored transposed and doubled. -/
theorem pay1_at (x : FVec Ideal S1024x64 .f32) (k : Fin 64) (b : Fin 1024) :
    k0_pay1 (F := Ideal) x (ix2 k b) = Ideal.ofBits .f32 0x40000000#32 * x (ix2 b k) := by
  pointwise [k0_pay1]

section
variable (fs : FVec Ideal S2000x64 .f32) (x : FVec Ideal S64x1024 .f32) (f g : FVec Ideal S2000x64 .f32) (b : Fin 1024)

/-- The cross part of a sample's weight over a stored query. -/
def part (f p : Fin 64 → EReal) : EReal := Ideal.exp (∑ k, f k * p k)

/-- The transported coordinates of the first side. -/
theorem pay2_lo (j : Fin 64) : k0_pay2 (F := Ideal) fs x f g (ix2 ⟨j.val, by omega⟩ b)
    = ∑ n, (f (ix2 n j) * own (row fs n)) * part (row fs n) (col x b) := by
  pointwise [k0_pay2]
  rfl

/-- The transported coordinates of the second side. -/
theorem pay2_hi (j : Fin 64) : k0_pay2 (F := Ideal) fs x f g (ix2 ⟨64 + j.val, by omega⟩ b)
    = ∑ n, (g (ix2 n j) * own (row fs n)) * part (row fs n) (col x b) := by
  pointwise [k0_pay2]
  rfl

/-- The weights' total. -/
theorem pay2_z : k0_pay2 (F := Ideal) fs x f g (ix2 128 b) = ∑ n, own (row fs n) * part (row fs n) (col x b) := by
  pointwise [k0_pay2]
  rfl

/-- The first block's sums are stored as they are. -/
theorem pay3_at (r : Fin 129) : k0_pay3 (F := Ideal) fs x f g (ix2 r b) = k0_pay2 (F := Ideal) fs x f g (ix2 r b) := by
  pointwise [k0_pay3]

/-- Every later block's sums are added. -/
theorem pay4_at (s : FVec Ideal S129x1024 .f32) (r : Fin 129) :
    k0_pay4 (F := Ideal) fs x f g s (ix2 r b) = (s (ix2 r b) + k0_pay2 (F := Ideal) fs x f g (ix2 r b) : EReal) := by
  pointwise [k0_pay4]
end

section
variable (s : FVec Ideal S129x1024 .f32) (W : FVec Ideal S64x32 .f32) (c : FVec Ideal S32x1 .f32) (u : FVec Ideal S100x32 .f32)
  (d : FVec Ideal S100x100 .f32) (b : Fin 1024)

/-- The first side's transported query. -/
def moved1 : Fin 64 → EReal := fun j => Ideal.div (s (ix2 ⟨j.val, by omega⟩ b)) (s (ix2 128 b))
/-- The second side's transported query. -/
def moved2 : Fin 64 → EReal := fun j => Ideal.div (s (ix2 ⟨64 + j.val, by omega⟩ b)) (s (ix2 128 b))

/-- The image of a transported query under a linear map with offset. -/
def image (p : Fin 64 → EReal) : Fin 32 → EReal := fun k => ∑ j, W (ix2 j k) * p j + c (ix2 k 0)

theorem pay14_at (j : Fin 64) : k0_pay14 (F := Ideal) s (ix2 j b) = moved1 s b j := by
  pointwise [k0_pay14, k0_pay13]
  rfl

theorem pay18_at (j : Fin 64) : k0_pay18 (F := Ideal) s (k0_pay13 (F := Ideal) s) (ix2 j b) = moved2 s b j := by
  pointwise [k0_pay18, k0_pay13]
  rfl

theorem pay16_at (p : FVec Ideal S64x1024 .f32) (j : Fin 64) :
    k0_pay16 (F := Ideal) p (ix2 j b) = Ideal.ofBits .f32 0x40000000#32 * p (ix2 j b) := by
  pointwise [k0_pay16]

theorem pay5_at (p : FVec Ideal S64x1024 .f32) (j : Fin 64) :
    k0_pay5 (F := Ideal) p (ix2 j b) = Ideal.ofBits .f32 0x40000000#32 * p (ix2 j b) := by
  pointwise [k0_pay5]

/-- The first side's indicator of the nearest label. -/
theorem pay15_at (r : Fin 100) : k0_pay15 (F := Ideal) s W c u (ix2 r b)
    = onehot (BitVec.ofNat 32 r.val) (BitVec.ofNat 32 (pick (image W c (moved1 s b)) (row u)).val) := by
  rw [← firstAt_score]
  pointwise [k0_pay15, k0_pay14, k0_pay13]
  simp only [top_eq]
  rfl

/-- The second side's scores. -/
theorem pay19_at (l : Fin 100) : k0_pay19 (F := Ideal) s (k0_pay13 (F := Ideal) s) W c u (ix2 l b)
    = score (image W c (moved2 s b)) (row u) l := by
  pointwise [k0_pay19, k0_pay18, k0_pay13]
  rfl

/-- The first side's extra rows: the distances to the nearest label, scaled. -/
theorem pay17_at (t : FVec Ideal S100x1024 .f32) (r : Fin 100) : k0_pay17 (F := Ideal) d t (ix2 r b)
    = Ideal.ofBits .f32 0xBC23D70A#32 * ∑ l, d (ix2 r l) * t (ix2 l b) := by
  pointwise [k0_pay17]

/-- The second side's extra rows, from its scores. -/
theorem pay6_at (t : FVec Ideal S100x1024 .f32) (r : Fin 100) :
    k0_pay6 (F := Ideal) (iota .tc S100x1024 32 [0] iota_S100x1024_d0_w32) d t (ix2 r b)
    = Ideal.ofBits .f32 0xBC23D70A#32 * ∑ l : Fin 100, d (ix2 r l) * onehot (BitVec.ofNat 32 l.val) (firstAt (fun l => t (ix2 l b))) := by
  pointwise [k0_pay6]
  simp only [top_eq]
  rfl
end

section
variable (ls : FVec Ideal S2000x32 .f32) (f : FVec Ideal S2000x64 .f32) (l : IVec S2000x1 32) (p : FVec Ideal S164x1024 .f32) (b : Fin 1024)

/-- The cross part of a labelled sample's weight. -/
def labelled (f : Fin 64 → EReal) (l : BitVec 32) (p : Fin 164 → EReal) : EReal :=
  Ideal.exp (∑ k : Fin 64, f k * p ⟨k.val, by omega⟩ + ∑ j : Fin 100, onehot l (BitVec.ofNat 32 j.val) * p ⟨64 + j.val, by omega⟩)

theorem pay20_lo (r : Fin 32) : k0_pay20 (F := Ideal) ls f l p (ix2 ⟨r.val, by omega⟩ b)
    = ∑ n, (ls (ix2 n r) * own (row f n)) * labelled (row f n) (l (ix2 n 0)) (col p b) := by
  pointwise [k0_pay20]
  rfl

theorem pay20_z : k0_pay20 (F := Ideal) ls f l p (ix2 32 b)
    = ∑ n, own (row f n) * labelled (row f n) (l (ix2 n 0)) (col p b) := by
  pointwise [k0_pay20]
  rfl

theorem pay7_lo (r : Fin 32) : k0_pay7 (F := Ideal) ls (k0_pay21 (F := Ideal) f l p) (k0_pay22 (F := Ideal) f) (ix2 ⟨r.val, by omega⟩ b)
    = ∑ n, (ls (ix2 n r) * own (row f n)) * labelled (row f n) (l (ix2 n 0)) (col p b) := by
  pointwise [k0_pay7, k0_pay21, k0_pay22]
  rfl

theorem pay7_z : k0_pay7 (F := Ideal) ls (k0_pay21 (F := Ideal) f l p) (k0_pay22 (F := Ideal) f) (ix2 32 b)
    = ∑ n, own (row f n) * labelled (row f n) (l (ix2 n 0)) (col p b) := by
  pointwise [k0_pay7, k0_pay21, k0_pay22]
  rfl

/-- The second side's block sums are the first side's function of its own tables. -/
theorem pay7_eq (r : Fin 33) : k0_pay7 (F := Ideal) ls (k0_pay21 (F := Ideal) f l p) (k0_pay22 (F := Ideal) f) (ix2 r b)
    = k0_pay20 (F := Ideal) ls f l p (ix2 r b) := by
  by_cases h : r.val < 32
  · exact (pay7_lo ls f l p b ⟨r.val, h⟩).trans (pay20_lo ls f l p b ⟨r.val, h⟩).symm
  · obtain rfl : r = 32 := Fin.ext (by have := r.isLt; show r.val = 32; omega)
    exact (pay7_z ls f l p b).trans (pay20_z ls f l p b).symm

theorem pay8_at (s : FVec Ideal S33x1024 .f32) (r : Fin 33) : k0_pay8 (F := Ideal) s (ix2 r b) = s (ix2 r b) := by
  pointwise [k0_pay8]

theorem pay10_at (s t : FVec Ideal S33x1024 .f32) (r : Fin 33) :
    k0_pay10 (F := Ideal) s t (ix2 r b) = (t (ix2 r b) + s (ix2 r b) : EReal) := by
  pointwise [k0_pay10]

theorem pay9_at (v : FVec Ideal S2000x1024 .f32) (w : FVec Ideal S2000x1 .f32) (r : Fin 33) :
    k0_pay9 (F := Ideal) ls v w (ix2 r b) = k0_pay7 (F := Ideal) ls v w (ix2 r b) := by
  pointwise [k0_pay9]

theorem pay11_at (v : FVec Ideal S2000x1024 .f32) (w : FVec Ideal S2000x1 .f32) (t : FVec Ideal S33x1024 .f32) (r : Fin 33) :
    k0_pay11 (F := Ideal) ls v w t (ix2 r b) = (t (ix2 r b) + k0_pay7 (F := Ideal) ls v w (ix2 r b) : EReal) := by
  pointwise [k0_pay11]
end

/-- The result: the mean of the two sides' averages. -/
theorem pay12_at (p q : FVec Ideal S33x1024 .f32) (b : Fin 1024) (r : Fin 32) : k0_pay12 (F := Ideal) p q (ix2 b r)
    = Ideal.ofBits .f32 0x3F000000#32 * (Ideal.div (p (ix2 ⟨r.val, by omega⟩ b)) (p (ix2 32 b)) + Ideal.div (q (ix2 ⟨r.val, by omega⟩ b)) (q (ix2 32 b))) := by
  pointwise [k0_pay12]

end Cert.KernelIdeal.Pay
-- ==== Proof.Formula.lean ====
module

public import proofs.«01_k».proof.Proof.Weights
public import proofs.«01_k».proof.Proof.Nearest

/-! What both programs compute for one query, as a formula over rows of the argument arrays. -/

@[expose] public section

noncomputable section

namespace Cert.Formula

open Idealize.ShloMosaic Cert.Weights Cert.Nearest

/-- The transported query: the average of the samples `f` under the weights of `fs` at `x`. -/
def moved (fs f : Fin 20000 → Fin 64 → EReal) (x : Fin 64 → EReal) : Fin 64 → EReal := fun j =>
  Ideal.div (∑ n, (f n j * own (fs n)) * cross (fs n) x 0) (∑ n, own (fs n) * cross (fs n) x 0)

/-- The image of a transported query under a linear map with offset. -/
def image (W : Fin 64 → Fin 32 → EReal) (c : Fin 32 → EReal) (p : Fin 64 → EReal) : Fin 32 → EReal := fun k =>
  ∑ j, W j k * p j + c k

/-- The average of the labels `ls` under the weights of `f` at `p` with the exponents `g`. -/
def average (f : Fin 20000 → Fin 64 → EReal) (ls : Fin 20000 → EReal) (p : Fin 64 → EReal) (g : Fin 20000 → EReal) : EReal :=
  Ideal.div (∑ n, (ls n * own (f n)) * cross (f n) p (g n)) (∑ n, own (f n) * cross (f n) p (g n))

/-- One side of the computation for the query `x`: the average of the labels at the transported query, every
    weight lowered by the label distance to the nearest label. -/
def side (x : Fin 64 → EReal) (fs f : Fin 20000 → Fin 64 → EReal) (ls : Fin 20000 → EReal) (lab : Fin 20000 → Fin 100)
    (u : Fin 100 → Fin 32 → EReal) (d : Fin 100 → Fin 100 → EReal) (W : Fin 64 → Fin 32 → EReal) (c : Fin 32 → EReal) : EReal :=
  average f ls (moved fs f x) fun n =>
    -(Ideal.ofBits FTy.f32 0x3C23D70A#32 * d (lab n) (pick (image W c (moved fs f x)) u))

/-- The transported query is finite when the samples and the query are. -/
theorem moved_real (fs f : Fin 20000 → Fin 64 → EReal) (x : Fin 64 → EReal) (hfs : ∀ n, IsReal (fs n)) (hf : ∀ n, IsReal (f n))
    (hx : IsReal x) : IsReal (moved fs f x) := average_fin fs x hfs hx f hf

end Cert.Formula
-- ==== Proof.KernelValue.lean ====
module

public import proofs.«01_k».proof.Proof.KernelBlocks
public import proofs.«01_k».proof.Proof.KernelPay
public import proofs.«01_k».proof.Proof.Formula

/-! The kernel's sums over all samples, and its result as the formula of the argument arrays. -/

@[expose] public section

set_option maxRecDepth 16384

noncomputable section

namespace Cert.KernelIdeal.Run

open Cert.KernelIdeal Cert.KernelIdeal.Gen Cert.KernelIdeal.Body Cert.KernelIdeal.Pay
open Idealize.ShloMosaic Idealize.ShloMosaic.TcCoe Idealize.SL.Sem
open Cert.Weights (own cross)

variable (m : (ℓ : Loc nD τ sig) → Buf (Elt Ideal) ℓ) (c : Dev nD)

/-! ## Running sums -/

/-- A quantity that starts at its first term and gains the next term at every step is the sum of its terms. -/
theorem sum_of_rec (Y T : ℕ → EReal) (h0 : Y 0 = T 0) (hs : ∀ n, Y (n + 1) = Y n + T (n + 1)) :
    ∀ n, Y n = ∑ t ∈ Finset.range (n + 1), T t
  | 0 => by simp [h0]
  | n + 1 => by rw [hs, sum_of_rec Y T h0 hs n, ← Finset.sum_range_succ]

/-- A sum over ten blocks of two thousand rows is the sum over all rows. -/
theorem sum_blocks (T : ℕ → EReal) (g : Fin 20000 → EReal) (h : ∀ q : Fin 10, T q.val = ∑ n : Fin 2000, g (rowOf q n)) :
    ∑ t ∈ Finset.range (9 + 1), T t = ∑ n, g n := by
  rw [Finset.sum_range]
  exact (Finset.sum_congr rfl fun q _ => h q).trans (Fin.sum_univ_tiles 10 2000 rfl g).symm

/-! ## The first phase -/

/-- The samples, the queries and the transported samples as rows. -/
abbrev xs (b : Fin 1024) : Fin 64 → EReal := row (arg m c main_arg0 : FVec Ideal S1024x64 .f32) b
abbrev stars : Fin 20000 → Fin 64 → EReal := row (arg m c main_arg1 : FVec Ideal S20000x64 .f32)
abbrev ones : Fin 20000 → Fin 64 → EReal := row (arg m c main_arg3 : FVec Ideal S20000x64 .f32)
abbrev twos : Fin 20000 → Fin 64 → EReal := row (arg m c main_arg4 : FVec Ideal S20000x64 .f32)

/-- The stored queries are the doubled queries. -/
theorem x2v_at (b : Fin 1024) (k : Fin 64) : x2v m c (ix2 k b) = Ideal.ofBits .f32 0x40000000#32 * xs m c b k := by
  unfold x2v
  rw [pay1_at]
  unfold blk
  rw [x_at]

/-- The block sums of point `n`. -/
abbrev term (n : ℕ) : FVec Ideal S129x1024 .f32 :=
  k0_pay2 (F := Ideal) (blk m c n).fs (x2v m c) (blk m c n).f1 (blk m c n).f2

/-- The sums after the first phase add the blocks'. -/
theorem sums_eq (r : Fin 129) (b : Fin 1024) : (sums m c 9 (ix2 r b) : EReal) = ∑ t ∈ Finset.range (9 + 1), (term m c t (ix2 r b) : EReal) :=
  sum_of_rec (fun n => sums m c n (ix2 r b)) (fun n => term m c n (ix2 r b))
    (pay3_at _ _ _ _ b r) (fun n => pay4_at _ _ _ _ b (sums m c n) r) 9

/-- The grid point of block `q` in the first phase, -/
abbrev first (q : Fin 10) : Fin cfg0.N := ⟨q.val, lt_of_lt_of_eq (by omega : q.val < 21) N_0.symm⟩
/-- and in the third. -/
abbrev third (q : Fin 10) : Fin cfg0.N := ⟨q.val + 11, lt_of_lt_of_eq (by omega : q.val + 11 < 21) N_0.symm⟩

theorem blk_first (q : Fin 10) : blk m c q.val = insAt m c (first q) := (insAt_eq m c (first q)).symm
theorem blk_third (q : Fin 10) : blk m c (q.val + 11) = insAt m c (third q) := (insAt_eq m c (third q)).symm

/-- A block's rows of the first phase. -/
theorem blk_fs (q : Fin 10) (n : Fin 2000) : row (blk m c q.val).fs n = stars m c (rowOf q n) := by
  funext k
  rw [blk_first]
  exact fs_at m c (index_fs (first q) q.isLt) n k
theorem blk_f1 (q : Fin 10) (n : Fin 2000) (k : Fin 64) : (blk m c q.val).f1 (ix2 n k) = ones m c (rowOf q n) k := by
  rw [blk_first]
  exact f1_at m c (index_f1 (first q) q.isLt) n k
theorem blk_f2 (q : Fin 10) (n : Fin 2000) (k : Fin 64) : (blk m c q.val).f2 (ix2 n k) = twos m c (rowOf q n) k := by
  rw [blk_first]
  exact f2_at m c (index_f2 (first q) q.isLt) n k

theorem part_eq (f : Fin 64 → EReal) (b : Fin 1024) : part f (col (x2v m c) b) = cross f (xs m c b) 0 := by
  unfold part cross
  rw [add_zero]
  simp only [col, x2v_at]

theorem sums_lo (b : Fin 1024) (j : Fin 64) : (sums m c 9 (ix2 ⟨j.val, by omega⟩ b) : EReal)
    = ∑ n, (ones m c n j * own (stars m c n)) * cross (stars m c n) (xs m c b) 0 := by
  rw [sums_eq]
  refine sum_blocks _ _ fun q => ?_
  refine (pay2_lo ..).trans ?_
  simp only [blk_fs, blk_f1, part_eq]

theorem sums_hi (b : Fin 1024) (j : Fin 64) : (sums m c 9 (ix2 ⟨64 + j.val, by omega⟩ b) : EReal)
    = ∑ n, (twos m c n j * own (stars m c n)) * cross (stars m c n) (xs m c b) 0 := by
  rw [sums_eq]
  refine sum_blocks _ _ fun q => ?_
  refine (pay2_hi ..).trans ?_
  simp only [blk_fs, blk_f2, part_eq]

theorem sums_z (b : Fin 1024) : (sums m c 9 (ix2 128 b) : EReal) = ∑ n, own (stars m c n) * cross (stars m c n) (xs m c b) 0 := by
  rw [sums_eq]
  refine sum_blocks _ _ fun q => ?_
  refine (pay2_z ..).trans ?_
  simp only [blk_fs, part_eq]

/-- The transported queries are the formula's. -/
theorem moved1_eq (b : Fin 1024) : moved1 (sums m c 9) b = Formula.moved (stars m c) (ones m c) (xs m c b) := by
  funext j
  unfold moved1 Formula.moved
  rw [sums_lo, sums_z]
theorem moved2_eq (b : Fin 1024) : moved2 (sums m c 9) b = Formula.moved (stars m c) (twos m c) (xs m c b) := by
  funext j
  unfold moved2 Formula.moved
  rw [sums_hi, sums_z]

/-! ## The second phase -/

theorem stack_lo (A : FVec Ideal S64x1024 .f32) (B : FVec Ideal S100x1024 .f32) (k : Fin 64) (b : Fin 1024) :
    (stack (F := Ideal) A B : FVec Ideal S164x1024 .f32) (ix2 ⟨k.val, by omega⟩ b) = A (ix2 k b) := by
  unfold stack
  exact dif_pos k.isLt
theorem stack_hi (A : FVec Ideal S64x1024 .f32) (B : FVec Ideal S100x1024 .f32) (k : Fin 100) (b : Fin 1024) :
    (stack (F := Ideal) A B : FVec Ideal S164x1024 .f32) (ix2 ⟨64 + k.val, by omega⟩ b) = B (ix2 k b) := by
  unfold stack
  refine (dif_neg (show ¬ 64 + k.val < 64 by omega)).trans ?_
  refine congrArg B (congrArg (fun z => ix2 z b) (Fin.ext ?_))
  show 64 + k.val - 64 = k.val
  omega

/-- The arrays of one side, as functions. -/
abbrev maps (W : FVec Ideal S64x32 .f32) : Fin 64 → Fin 32 → EReal := row W
abbrev offsets (b : FVec Ideal S32 .f32) : Fin 32 → EReal := fun k => b (ix1 k)

/-- The index of the nearest label of the first side, -/
abbrev pick1 (b : Fin 1024) : Fin 100 :=
  Nearest.pick (Formula.image (maps (arg m c main_arg11)) (offsets (arg m c main_arg12)) (Formula.moved (stars m c) (ones m c) (xs m c b)))
    (row (arg m c main_arg5 : FVec Ideal S100x32 .f32))
/-- and of the second. -/
abbrev pick2 (b : Fin 1024) : Fin 100 :=
  Nearest.pick (Formula.image (maps (arg m c main_arg13)) (offsets (arg m c main_arg14)) (Formula.moved (stars m c) (twos m c) (xs m c b)))
    (row (arg m c main_arg6 : FVec Ideal S100x32 .f32))

theorem image1_eq (p : Fin 64 → EReal) : Pay.image (blk m c 10).w1 (blk m c 10).b1 p
    = Formula.image (maps (arg m c main_arg11)) (offsets (arg m c main_arg12)) p := by
  funext k
  unfold Pay.image Formula.image blk
  rw [b1_at, w1_at]
theorem image2_eq (p : Fin 64 → EReal) : Pay.image (blk m c 10).w2 (blk m c 10).b2 p
    = Formula.image (maps (arg m c main_arg13)) (offsets (arg m c main_arg14)) p := by
  funext k
  unfold Pay.image Formula.image blk
  rw [b2_at, w2_at]

theorem rhs1_lo (b : Fin 1024) (k : Fin 64) : rhs1 m c (ix2 ⟨k.val, by omega⟩ b)
    = Ideal.ofBits .f32 0x40000000#32 * Formula.moved (stars m c) (ones m c) (xs m c b) k := by
  unfold rhs1 stack1
  rw [stack_lo, pay16_at, pay14_at, moved1_eq]
theorem rhs2_lo (b : Fin 1024) (k : Fin 64) : rhs2 m c (ix2 ⟨k.val, by omega⟩ b)
    = Ideal.ofBits .f32 0x40000000#32 * Formula.moved (stars m c) (twos m c) (xs m c b) k := by
  unfold rhs2 stack2
  rw [stack_lo, pay5_at, pay18_at, moved2_eq]

theorem rhs1_hi (b : Fin 1024) (l : Fin 100) : rhs1 m c (ix2 ⟨64 + l.val, by omega⟩ b)
    = -(Ideal.ofBits .f32 0x3C23D70A#32 * row (arg m c main_arg9 : FVec Ideal S100x100 .f32) l (pick1 m c b)) := by
  unfold rhs1 stack1
  rw [stack_hi, pay17_at]
  simp only [pay15_at, image1_eq, moved1_eq]
  rw [Nearest.sum_onehot_right, Weights.neg_rate, EReal.neg_mul]
  unfold blk
  rw [u1_at, d1_at]
theorem rhs2_hi (b : Fin 1024) (l : Fin 100) : rhs2 m c (ix2 ⟨64 + l.val, by omega⟩ b)
    = -(Ideal.ofBits .f32 0x3C23D70A#32 * row (arg m c main_arg10 : FVec Ideal S100x100 .f32) l (pick2 m c b)) := by
  unfold rhs2 stack2
  rw [stack_hi, pay6_at]
  simp only [pay19_at, image2_eq, moved2_eq]
  rw [Nearest.firstAt_score, Nearest.sum_onehot_right, Weights.neg_rate, EReal.neg_mul]
  unfold blk
  rw [u2_at, d2_at]

/-! ## The third phase -/

/-- The cross part of a labelled sample's weight over the stacked array. -/
theorem labelled_eq (f : Fin 64 → EReal) (i : Fin 100) (p : Fin 164 → EReal) (xt : Fin 64 → EReal) (g : Fin 100 → EReal)
    (h1 : ∀ k : Fin 64, p ⟨k.val, by omega⟩ = Ideal.ofBits .f32 0x40000000#32 * xt k) (h2 : ∀ l : Fin 100, p ⟨64 + l.val, by omega⟩ = g l) :
    labelled f (BitVec.ofNat 32 i.val) p = cross f xt (g i) := by
  unfold labelled cross
  simp only [h1, h2]
  rw [Nearest.sum_onehot_left]

/-- The labels as an array. -/
abbrev labels : FVec Ideal S20000x32 .f32 := arg m c main_arg2

/-- A block's rows of the third phase. -/
theorem index_third {i : Fin 2 → ℕ} {q : Fin 10} (h : i = ![(third q).val - 11, 0]) : i = ![q.val, 0] := h

theorem blk_ls (q : Fin 10) (n : Fin 2000) (k : Fin 32) : (blk m c (q.val + 11)).ls (ix2 n k) = labels m c (ix2 (rowOf q n) k) := by
  rw [blk_third]
  exact ls_at m c (index_third (index_ls (third q) (Nat.le_add_left 11 q.val))) n k
theorem blk_f1' (q : Fin 10) (n : Fin 2000) : row (blk m c (q.val + 11)).f1 n = ones m c (rowOf q n) := by
  funext k
  rw [blk_third]
  exact f1_at m c (index_third (index_f1' (third q) (Nat.le_add_left 11 q.val))) n k
theorem blk_f2' (q : Fin 10) (n : Fin 2000) : row (blk m c (q.val + 11)).f2 n = twos m c (rowOf q n) := by
  funext k
  rw [blk_third]
  exact f2_at m c (index_third (index_f2' (third q) (Nat.le_add_left 11 q.val))) n k
theorem blk_li1 (q : Fin 10) (n : Fin 2000) : (blk m c (q.val + 11)).li1 (ix2 n 0) = arg m c main_arg7 (ix1 (rowOf q n)) := by
  rw [blk_third]
  exact li1_at m c (index_third (index_li1 (third q) (Nat.le_add_left 11 q.val))) n
theorem blk_li2 (q : Fin 10) (n : Fin 2000) : (blk m c (q.val + 11)).li2 (ix2 n 0) = arg m c main_arg8 (ix1 (rowOf q n)) := by
  rw [blk_third]
  exact li2_at m c (index_third (index_li2 (third q) (Nat.le_add_left 11 q.val))) n

/-- The sums a block contributes to each side. -/
def gain1 (n : ℕ) : FVec Ideal S33x1024 .f32 :=
  k0_pay20 (F := Ideal) (blk m c (n + 11)).ls (blk m c (n + 11)).f1 (blk m c (n + 11)).li1 (rhs1 m c)
def gain2 (n : ℕ) : FVec Ideal S33x1024 .f32 :=
  k0_pay20 (F := Ideal) (blk m c (n + 11)).ls (blk m c (n + 11)).f2 (blk m c (n + 11)).li2 (rhs2 m c)

theorem acc1_zero : acc1 m c 0 = k0_pay8 (gain1 m c 0) := rfl
theorem acc1_succ (n : ℕ) : acc1 m c (n + 1) = k0_pay10 (gain1 m c (n + 1)) (acc1 m c n) := rfl
theorem acc2_zero : acc2 m c 0 = k0_pay9 (F := Ideal) (blk m c 11).ls (k0_pay21 (blk m c 11).f2 (blk m c 11).li2 (rhs2 m c)) (k0_pay22 (blk m c 11).f2) := rfl
theorem acc2_succ (n : ℕ) : acc2 m c (n + 1) = k0_pay11 (F := Ideal) (blk m c (n + 12)).ls
    (k0_pay21 (blk m c (n + 12)).f2 (blk m c (n + 12)).li2 (rhs2 m c)) (k0_pay22 (blk m c (n + 12)).f2) (acc2 m c n) := rfl

theorem acc1_eq (r : Fin 33) (b : Fin 1024) :
    (acc1 m c 9 (ix2 r b) : EReal) = ∑ t ∈ Finset.range (9 + 1), (gain1 m c t (ix2 r b) : EReal) := by
  refine sum_of_rec (fun n => acc1 m c n (ix2 r b)) (fun n => gain1 m c n (ix2 r b)) ?_ (fun n => ?_) 9
  · show acc1 m c 0 (ix2 r b) = gain1 m c 0 (ix2 r b)
    rw [acc1_zero, pay8_at]
  · show acc1 m c (n + 1) (ix2 r b) = (acc1 m c n (ix2 r b) + gain1 m c (n + 1) (ix2 r b) : EReal)
    rw [acc1_succ, pay10_at]
theorem acc2_eq (r : Fin 33) (b : Fin 1024) :
    (acc2 m c 9 (ix2 r b) : EReal) = ∑ t ∈ Finset.range (9 + 1), (gain2 m c t (ix2 r b) : EReal) := by
  refine sum_of_rec (fun n => acc2 m c n (ix2 r b)) (fun n => gain2 m c n (ix2 r b)) ?_ (fun n => ?_) 9
  · show acc2 m c 0 (ix2 r b) = gain2 m c 0 (ix2 r b)
    rw [acc2_zero, pay9_at, pay7_eq]
    rfl
  · show acc2 m c (n + 1) (ix2 r b) = (acc2 m c n (ix2 r b) + gain2 m c (n + 1) (ix2 r b) : EReal)
    rw [acc2_succ, pay11_at, pay7_eq]
    rfl

section
variable (lab : Fin 20000 → Fin 100)

/-- The first side's average is the formula's. -/
theorem side1_eq (hl : ∀ n, arg m c main_arg7 (ix1 n) = BitVec.ofNat 32 (lab n).val) (b : Fin 1024) (r : Fin 32) :
    Ideal.div (acc1 m c 9 (ix2 ⟨r.val, by omega⟩ b)) (acc1 m c 9 (ix2 32 b))
      = Formula.side (xs m c b) (stars m c) (ones m c) (fun n => labels m c (ix2 n r)) lab (row (arg m c main_arg5 : FVec Ideal S100x32 .f32))
          (row (arg m c main_arg9 : FVec Ideal S100x100 .f32)) (maps (arg m c main_arg11)) (offsets (arg m c main_arg12)) := by
  have hw := fun f i => labelled_eq f i (col (rhs1 m c) b) _ _ (rhs1_lo m c b) (rhs1_hi m c b)
  unfold Formula.side Formula.average
  rw [acc1_eq, acc1_eq]
  refine congrArg₂ Ideal.div (sum_blocks _ _ fun q => ?_) (sum_blocks _ _ fun q => ?_)
  · refine (pay20_lo ..).trans ?_; simp only [blk_f1', blk_ls, blk_li1, hl, hw]
  · refine (pay20_z ..).trans ?_; simp only [blk_f1', blk_li1, hl, hw]

/-- The second side's average is the formula's. -/
theorem side2_eq (hl : ∀ n, arg m c main_arg8 (ix1 n) = BitVec.ofNat 32 (lab n).val) (b : Fin 1024) (r : Fin 32) :
    Ideal.div (acc2 m c 9 (ix2 ⟨r.val, by omega⟩ b)) (acc2 m c 9 (ix2 32 b))
      = Formula.side (xs m c b) (stars m c) (twos m c) (fun n => labels m c (ix2 n r)) lab (row (arg m c main_arg6 : FVec Ideal S100x32 .f32))
          (row (arg m c main_arg10 : FVec Ideal S100x100 .f32)) (maps (arg m c main_arg13)) (offsets (arg m c main_arg14)) := by
  have hw := fun f i => labelled_eq f i (col (rhs2 m c) b) _ _ (rhs2_lo m c b) (rhs2_hi m c b)
  unfold Formula.side Formula.average
  rw [acc2_eq, acc2_eq]
  refine congrArg₂ Ideal.div (sum_blocks _ _ fun q => ?_) (sum_blocks _ _ fun q => ?_)
  · refine (pay20_lo ..).trans ?_; simp only [blk_f2', blk_ls, blk_li2, hl, hw]
  · refine (pay20_z ..).trans ?_; simp only [blk_f2', blk_li2, hl, hw]
end

/-- The kernel's result is half the sum of its sides' averages. -/
theorem outv_at (b : Fin 1024) (r : Fin 32) : outv m c (ix2 b r) = Ideal.ofBits .f32 0x3F000000#32
    * (Ideal.div (acc1 m c 9 (ix2 ⟨r.val, by omega⟩ b)) (acc1 m c 9 (ix2 32 b)) + Ideal.div (acc2 m c 9 (ix2 ⟨r.val, by omega⟩ b)) (acc2 m c 9 (ix2 32 b))) :=
  pay12_at _ _ b r

end Cert.KernelIdeal.Run
-- ==== Proof.KernelOut.lean ====
module

public import proofs.«01_k».proof.Proof.KernelRun
public import Idealize.ShloMosaic.Lib.Claim
public import Idealize.ShloMosaic.Lib.Pipeline.ValueKit

/-! The kernel's result array after the run. -/

@[expose] public section

set_option maxRecDepth 16384

noncomputable section

namespace Cert.KernelIdeal.Run

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The last grid point. -/
abbrev last : Fin cfg0.N := ⟨20, lt_of_lt_of_eq (by decide) N_0.symm⟩

/-- The result array ends holding what the last point stores. -/
theorem final (c : Dev nD) : (dats m 0 c).arrAt 15 cfg0.N = (outv m c : Buf (Elt F) ((c : Thread nD τ).loc main_v0)) := by
  refine (dats m 0 c).arrAt_eq_of_after_last 15 last (by decide +kernel) _ fun j => ?_
  blk_simp
  rfl

/-- The run leaves the result in the result array. -/
theorem run_out : θ_run defs (onTc (τ := τ) (main (F := F))) ⟨m, fun _ => 0, ρ⟩ fun r => ∀ c : Dev nD,
    r.2.mem ((c : Thread nD τ).loc main_v0) = outv m c :=
  (θ_run defs _ _).mono (fun _ h c => ((h c).1 15).trans (final m c)) (run m ρ)

end Cert.KernelIdeal.Run
-- ==== Proof.RefPoint.lean ====
module

public import proofs.«01_k».proof.Proof.RefStages
public import proofs.«01_k».proof.Proof.Formula
public import Idealize.ShloMosaic.Lib.Pointwise

/-! The reference's stages read at an index. -/

@[expose] public section

set_option maxRecDepth 16384

noncomputable section

namespace Cert.ReferenceIdeal.Stages

open Cert.ReferenceIdeal Cert.ReferenceIdeal.Gen Idealize.ShloMosaic Idealize.ShloMosaic.TcCoe Idealize.SL.Sem

/-- Row `r` of a table. -/
abbrev row {n d : ℕ} (f : FVec Ideal ⟨2, ![n, d]⟩ .f32) (r : Fin n) : Fin d → EReal := fun k => f (ix2 r k)

theorem kernelW_at (f : FVec Ideal S20000x64 .f32) (x : FVec Ideal S1024x64 .f32) (n : Fin 20000) (b : Fin 1024) :
    kernelW (F := Ideal) f x (ix2 n b) = Ideal.exp (-(Weights.dist (row f n) (row x b) * Weights.dist (row f n) (row x b))) := by
  pointwise [kernelW, dist, id]
  rfl

theorem transport_at (x : FVec Ideal S1024x64 .f32) (fs f : FVec Ideal S20000x64 .f32) (c : Fin 64) (b : Fin 1024) :
    transport (F := Ideal) x fs f (ix2 b c) = Ideal.div
      (∑ n, f (ix2 n c) * (show EReal from kernelW (F := Ideal) fs x (ix2 n b))) (∑ n, (show EReal from kernelW (F := Ideal) fs x (ix2 n b))) := by
  pointwise [transport]

theorem image_at (x : FVec Ideal S1024x64 .f32) (W : FVec Ideal S64x32 .f32) (c : FVec Ideal S32 .f32) (k : Fin 32) (b : Fin 1024) :
    image (F := Ideal) x W c (ix2 b k) = (∑ j, x (ix2 b j) * W (ix2 j k) + c (ix1 k) : EReal) := by
  pointwise [image]

theorem labelDist_at (y : FVec Ideal S1024x32 .f32) (u : FVec Ideal S100x32 .f32) (l : Fin 100) (b : Fin 1024) :
    labelDist (F := Ideal) y u (ix2 b l) = Ideal.sqrt (Nearest.score (row y b) (row u) l) := by
  rw [← Nearest.sqrt_score]
  pointwise [labelDist, id]

theorem weights_at (f : FVec Ideal S20000x64 .f32) (x : FVec Ideal S1024x64 .f32) (g : FVec Ideal S20000x1024 .f32) (n : Fin 20000) (b : Fin 1024) :
    weights (F := Ideal) f x g (ix2 n b) = Ideal.exp (-(Weights.dist (row f n) (row x b) * Weights.dist (row f n) (row x b))
      - Ideal.ofBits .f32 0x3C23D70A#32 * g (ix2 n b)) := by
  pointwise [weights, dist, id]
  rfl

theorem target_at (ls : FVec Ideal S20000x32 .f32) (w : FVec Ideal S20000x1024 .f32) (c : Fin 32) (b : Fin 1024) :
    target (F := Ideal) ls w (ix2 b c) = Ideal.div (∑ n, ls (ix2 n c) * w (ix2 n b)) (∑ n, w (ix2 n b)) := by
  pointwise [target]

theorem mean_at (p q : FVec Ideal S1024x32 .f32) (c : Fin 32) (b : Fin 1024) :
    mean (F := Ideal) p q (ix2 b c) = Ideal.div (p (ix2 b c) + q (ix2 b c)) (Ideal.ofBits .f32 0x40000000#32) := by
  pointwise [mean]

/-- A label's number is its row index. -/
theorem rowIndex_at (l : IVec S20000 32) (n : Fin 20000) (i : Fin 100) (h : l (ix1 n) = BitVec.ofNat 32 i.val) :
    rowIndex (F := Ideal) l (ix2 n 0) = BitVec.ofNat 32 i.val := by
  have h0 : IntOp.cmpi .slt (BitVec.ofNat 32 i.val) 0#32 = 0#1 := by
    simp only [IntOp.cmpi]
    rw [BitVec.slt_eq_decide, Nearest.toInt_ofNat, decide_eq_false (by simp)]; rfl
  pointwise [rowIndex]
  rw [h, h0]
  simp [Scalar.select]

/-- The same for the columns. -/
theorem colIndex_at (l : IVec S1024 32) (n : Fin 1024) (i : Fin 100) (h : l (ix1 n) = BitVec.ofNat 32 i.val) :
    colIndex (F := Ideal) l (ix2 n 0) = BitVec.ofNat 32 i.val := by
  have h0 : IntOp.cmpi .slt (BitVec.ofNat 32 i.val) 0#32 = 0#1 := by
    simp only [IntOp.cmpi]
    rw [BitVec.slt_eq_decide, Nearest.toInt_ofNat, decide_eq_false (by simp)]; rfl
  pointwise [colIndex]
  rw [h, h0]
  simp [Scalar.select]

/-- Looking up a row of the label distances. -/
theorem gather_row_at (d : FVec Ideal S100x100 .f32) (idx : IVec S20000x1 32) (n : Fin 20000) (j i : Fin 100)
    (h : idx (ix2 n 0) = BitVec.ofNat 32 i.val) :
    Host.gather gather_S100x100_S20000x1_S20000x100_1_0_n_n_0_1_1100 d idx (ix2 n j) = d (ix2 i j) := by
  unfold Host.gather
  congr 1
  funext a
  refine Fin.ext ?_
  show gather_S100x100_S20000x1_S20000x100_1_0_n_n_0_1_1100.start (ix2 n j) idx a
      + gather_S100x100_S20000x1_S20000x100_1_0_n_n_0_1_1100.batchCoord (ix2 n j) a
      + gather_S100x100_S20000x1_S20000x100_1_0_n_n_0_1_1100.offCoord (ix2 n j) a = _
  rw [GatherDims.batchCoord_eq_zero _ _ _ List.not_mem_nil]
  have h01 : a = 0 ∨ a = 1 := by
    match a with
    | ⟨0, _⟩ => exact .inl rfl
    | ⟨1, _⟩ => exact .inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S100x100_S20000x1_S20000x100_1_0_n_n_0_1_1100.startIndexMap from List.mem_singleton.mpr rfl)]
    have hsi : gather_S100x100_S20000x1_S20000x100_1_0_n_n_0_1_1100.siIdx (ix2 n j)
        ⟨List.idxOf (0 : Fin 2) gather_S100x100_S20000x1_S20000x100_1_0_n_n_0_1_1100.startIndexMap,
          List.idxOf_lt_length_iff.2 (List.mem_singleton.mpr rfl)⟩ = ix2 n 0 := by
      funext b; refine Fin.ext ?_
      match b with
      | ⟨0, _⟩ => rfl
      | ⟨1, _⟩ => rfl
    rw [Nat.add_zero]
    refine (congrArg (fun z => min (BitVec.toInt (idx z)).toNat (100 - 1)) hsi).trans ?_
    rw [h, Nearest.toInt_ofNat]
    show min i.val 99 = i.val
    omega
  · unfold GatherDims.start
    rw [dif_neg (by decide)]
    unfold GatherDims.offCoord
    rw [dif_pos (by decide)]
    exact (Nat.zero_add _)

/-- Looking up a column of a table. -/
theorem gather_col_at (d : FVec Ideal S20000x100 .f32) (idx : IVec S1024x1 32) (n : Fin 20000) (b : Fin 1024) (i : Fin 100)
    (h : idx (ix2 b 0) = BitVec.ofNat 32 i.val) :
    Host.gather gather_S20000x100_S1024x1_S20000x1024_0_1_n_n_1_1_200001 d idx (ix2 n b) = d (ix2 n i) := by
  unfold Host.gather
  congr 1
  funext a
  refine Fin.ext ?_
  show gather_S20000x100_S1024x1_S20000x1024_0_1_n_n_1_1_200001.start (ix2 n b) idx a
      + gather_S20000x100_S1024x1_S20000x1024_0_1_n_n_1_1_200001.batchCoord (ix2 n b) a
      + gather_S20000x100_S1024x1_S20000x1024_0_1_n_n_1_1_200001.offCoord (ix2 n b) a = _
  rw [GatherDims.batchCoord_eq_zero _ _ _ List.not_mem_nil]
  have h01 : a = 0 ∨ a = 1 := by
    match a with
    | ⟨0, _⟩ => exact .inl rfl
    | ⟨1, _⟩ => exact .inr rfl
  rcases h01 with rfl | rfl
  · unfold GatherDims.start
    rw [dif_neg (by decide)]
    unfold GatherDims.offCoord
    rw [dif_pos (by decide)]
    exact (Nat.zero_add _)
  · rw [GatherDims.offCoord_eq_zero _ _ _ (fun h => ((GatherDims.mem_sKept _ _).mp h).1 (List.mem_singleton.mpr rfl))]
    unfold GatherDims.start
    rw [dif_pos (show (1 : Fin 2) ∈ gather_S20000x100_S1024x1_S20000x1024_0_1_n_n_1_1_200001.startIndexMap from List.mem_singleton.mpr rfl)]
    have hsi : gather_S20000x100_S1024x1_S20000x1024_0_1_n_n_1_1_200001.siIdx (ix2 n b)
        ⟨List.idxOf (1 : Fin 2) gather_S20000x100_S1024x1_S20000x1024_0_1_n_n_1_1_200001.startIndexMap,
          List.idxOf_lt_length_iff.2 (List.mem_singleton.mpr rfl)⟩ = ix2 b 0 := by
      funext b; refine Fin.ext ?_
      match b with
      | ⟨0, _⟩ => rfl
      | ⟨1, _⟩ => rfl
    rw [Nat.add_zero]
    refine (congrArg (fun z => min (BitVec.toInt (idx z)).toNat (100 - 1)) hsi).trans ?_
    rw [h, Nearest.toInt_ofNat]
    show min i.val 99 = i.val
    omega

/-- The label distance looked up for a sample and a query. -/
theorem lookup_at (d : FVec Ideal S100x100 .f32) (l : IVec S20000 32) (q : IVec S1024 32) (n : Fin 20000) (b : Fin 1024) (i j : Fin 100)
    (hi : l (ix1 n) = BitVec.ofNat 32 i.val) (hj : q (ix1 b) = BitVec.ofNat 32 j.val) :
    lookup (F := Ideal) d (rowIndex (F := Ideal) l) q (ix2 n b) = d (ix2 i j) := by
  unfold lookup
  rw [gather_col_at _ _ n b j (colIndex_at q b j hj), gather_row_at d _ n j i (rowIndex_at l n i hi)]

/-- The reference's reducing operation keeps one of its operands, before both. -/
theorem reducer_before (p q : EReal × BitVec 32) :
    ((reducer_argmin_f32_i32 (F := Ideal) p q : EReal × BitVec 32) = p ∨ (reducer_argmin_f32_i32 (F := Ideal) p q : EReal × BitVec 32) = q)
      ∧ Nearest.Before (reducer_argmin_f32_i32 (F := Ideal) p q) p ∧ Nearest.Before (reducer_argmin_f32_i32 (F := Ideal) p q) q := by
  obtain ⟨a, i⟩ := p
  obtain ⟨c, j⟩ := q
  have e : (reducer_argmin_f32_i32 (F := Ideal) (a, i) (c, j) : EReal × BitVec 32)
      = if a < c ∨ (a = c ∧ i.toInt < j.toInt) then (a, i) else (c, j) := by
    unfold reducer_argmin_f32_i32
    simp only [Ideal.cmpf_def, Ideal.cmp, IntOp.ori, IntOp.andi, IntOp.cmpi, Scalar.select, BitVec.slt_eq_decide]
    rcases lt_trichotomy a c with h | h | h
    · simp [h, h.ne]
    · subst h
      by_cases k : i.toInt < j.toInt <;> simp [k]
    · simp [h.not_gt, h.ne']
  rw [e]
  unfold Nearest.Before
  split
  · rename_i h
    refine ⟨.inl rfl, .inr ⟨rfl, le_rfl⟩, ?_⟩
    rcases h with h | ⟨h, k⟩
    · exact .inl h
    · exact .inr ⟨h, k.le⟩
  · rename_i h
    refine ⟨.inr rfl, ?_, .inr ⟨rfl, le_rfl⟩⟩
    rw [not_or, not_lt, not_and, not_lt] at h
    rcases h.1.eq_or_lt with k | k
    · exact .inr ⟨k, h.2 k.symm⟩
    · exact .inl k

/-- The reference's index of the nearest label. -/
theorem nearest_at (y : FVec Ideal S1024x32 .f32) (u : FVec Ideal S100x32 .f32) (b : Fin 1024) :
    nearest (F := Ideal) y u (ix1 b) = BitVec.ofNat 32 (Nearest.pick (row y b) (row u)).val := by
  unfold nearest
  rw [Ideal.argReduce_eq_reduce2, Host.reduce2_eq_foldl_fiber]
  obtain ⟨i, hi, e⟩ := Nearest.foldl_first (reducer_argmin_f32_i32 (F := Ideal)) reducer_before
    (fun l => Ideal.sqrt (Nearest.score (row y b) (row u) l))
    (Host.argReduceFiber (labelDist (F := Ideal) y u) (iotaInDim S1024x100 32 1) reducesTo_S1024x100_S1024_d1 (ix1 b)) (fun p => by
      unfold Host.argReduceFiber
      rw [List.mem_map]
      constructor
      · rintro ⟨k, hk, rfl⟩
        rw [List.mem_filter] at hk
        obtain ⟨l, hl⟩ := (Shape.ReducesTo.fiber_r2_a1 reducesTo_S1024x100_S1024_d1 (ix1 b) _).mp (by simpa using hk.2)
        refine ⟨l, ?_⟩
        rw [← hl]
        exact Prod.ext (labelDist_at y u l b) rfl
      · rintro ⟨l, rfl⟩
        refine ⟨Shape.rowMajor S1024x100 (ix2 b l), List.mem_filter.mpr ⟨List.mem_finRange _, ?_⟩, ?_⟩
        · rw [Equiv.symm_apply_apply]
          exact decide_eq_true ((Shape.ReducesTo.fiber_r2_a1 reducesTo_S1024x100_S1024_d1 (ix1 b) _).mpr ⟨l, rfl⟩)
        · rw [Equiv.symm_apply_apply]
          exact Prod.ext (labelDist_at y u l b) rfl)
  rw [← Nearest.pick_eq hi, ← e, ← Weights.top_eq]
  rfl

section
variable (x : FVec Ideal S1024x64 .f32) (fs f : FVec Ideal S20000x64 .f32) (ls : FVec Ideal S20000x32 .f32) (u : FVec Ideal S100x32 .f32)
  (l : IVec S20000 32) (d : FVec Ideal S100x100 .f32) (W : FVec Ideal S64x32 .f32) (c : FVec Ideal S32 .f32) (b : Fin 1024)

/-- The reference's transported query is the formula's. -/
theorem transport_row (hfs : ∀ n, Weights.IsReal (row fs n)) (hx : Weights.IsReal (row x b)) :
    row (transport (F := Ideal) x fs f) b = Formula.moved (row fs) (row f) (row x b) := by
  funext j
  have h := Weights.average_eq (row fs) (row x b) hfs hx (fun _ => 0) (fun n => f (ix2 n j))
  simp only [sub_zero, neg_zero] at h
  refine (transport_at x fs f j b).trans ?_
  simp only [kernelW_at]
  exact h

/-- The reference's image is the formula's. -/
theorem image_row (p : FVec Ideal S1024x64 .f32) :
    row (image (F := Ideal) p W c) b = Formula.image (row W) (fun k => c (ix1 k)) (row p b) := by
  funext k
  refine (image_at p W c k b).trans ?_
  unfold Formula.image
  simp only [mul_comm (p _)]

/-- One side of the reference is the formula's. -/
theorem side_at (lab : Fin 20000 → Fin 100) (hl : ∀ n, l (ix1 n) = BitVec.ofNat 32 (lab n).val)
    (hfs : ∀ n, Weights.IsReal (row fs n)) (hf : ∀ n, Weights.IsReal (row f n)) (hx : Weights.IsReal (row x b)) (r : Fin 32) :
    side (F := Ideal) x fs ls f u l d W c (ix2 b r)
      = Formula.side (row x b) (row fs) (row f) (fun n => ls (ix2 n r)) lab (row u) (row d) (row W) (fun k => c (ix1 k)) := by
  unfold side
  refine (target_at _ _ r b).trans ?_
  have ht := transport_row x fs f b hfs hx
  have hg : ∀ n, lookup (F := Ideal) d (rowIndex (F := Ideal) l) (nearest (F := Ideal) (image (F := Ideal) (transport (F := Ideal) x fs f) W c) u) (ix2 n b)
      = d (ix2 (lab n) (Nearest.pick (Formula.image (row W) (fun k => c (ix1 k)) (Formula.moved (row fs) (row f) (row x b))) (row u))) := fun n => by
    refine lookup_at d l _ n b _ _ (hl n) ?_
    rw [nearest_at, image_row, ht]
  simp only [weights_at, hg, ht]
  exact Weights.average_eq (row f) _ hf (Formula.moved_real _ _ _ hfs hf hx) _ _
end

end Cert.ReferenceIdeal.Stages
-- ==== Proof.Admitted.lean ====
module

public import proofs.«01_k».proof.Proof.Gen.Pre_admitted
public import proofs.«01_k».proof.Proof.Weights
public import Idealize.ShloMosaic.Lib.ReduceAll
public import Idealize.ShloMosaic.Lib.Pointwise
public import Idealize.ShloMosaic.PureOps.Ideal

/-! What the precondition says of the arrays: the features are real numbers and every label index names one of the hundred labels. -/

@[expose] public section

set_option maxRecDepth 16384

noncomputable section

namespace Cert.Admitted

open Cert.Pre_admitted Cert.Pre_admitted.Facts
open Idealize.ShloMosaic
open Cert.Weights (IsReal)

/-- A number whose absolute value is below infinity is real. -/
theorem real_of_abs {a : EReal} (h : max a (-a) < ⊤) : ∃ r : ℝ, a = (r : EReal) := by
  induction a with
  | bot => simp at h
  | top => simp at h
  | coe r => exact ⟨r, rfl⟩

/-- A word compared below infinity in absolute value is real. -/
theorem real_of_word {a : EReal} (h : (FloatOps.cmpf (F := Ideal) (φ := .f32) .olt (max a (-a) : EReal) (Ideal.ofBits .f32 0x7F800000#32) : BitVec 1) = 1#1) :
    ∃ r : ℝ, a = (r : EReal) := by
  refine real_of_abs ?_
  rw [Weights.top_eq] at h
  by_contra hn
  refine absurd (h.symm.trans (?_ : _ = (0#1 : BitVec 1))) (by decide)
  show BitVec.ofBool (decide _) = _
  rw [decide_eq_false hn]
  rfl

/-- A word between nought and a hundred is the word of a number below a hundred. -/
theorem label_of_word {v : BitVec 32} (h0 : IntOp.cmpi .sge v 0#32 = 1#1) (h1 : IntOp.cmpi .slt v 100#32 = 1#1) :
    ∃ i : Fin 100, v = BitVec.ofNat 32 i.val := by
  rw [IntOp.cmpi_sge] at h0
  rw [IntOp.cmpi_slt] at h1
  have e0 : (0#32 : BitVec 32).toInt = 0 := rfl
  have e1 : (100#32 : BitVec 32).toInt = 100 := rfl
  rw [e0] at h0
  rw [e1] at h1
  have hv := BitVec.toInt_eq_toNat_cond v
  have hl := v.isLt
  refine ⟨⟨v.toNat, by split at hv <;> omega⟩, ?_⟩
  apply BitVec.eq_of_toNat_eq
  simp

instance : Subsingleton S_.Idx := ⟨fun _ _ => funext fun a => a.elim0⟩

variable (x : FVec Ideal S1024x64 .f32) (fs : FVec Ideal S20000x64 .f32) (ls : FVec Ideal S20000x32 .f32)
  (f1 f2 : FVec Ideal S20000x64 .f32) (u1 u2 : FVec Ideal S100x32 .f32) (l1 l2 : IVec S20000 32)
  (d1 d2 : FVec Ideal S100x100 .f32) (w1 : FVec Ideal S64x32 .f32) (b1 : FVec Ideal S32 .f32) (w2 : FVec Ideal S64x32 .f32) (b2 : FVec Ideal S32 .f32)

/-- The arrays the precondition admits. -/
theorem admitted (h : ∀ i, Cert.Pre_admitted.fn (F := Ideal) x fs ls f1 f2 u1 u2 l1 l2 d1 d2 w1 b1 w2 b2 i = 1#1) :
    (∀ n, IsReal fun k => (x (ix2 n k) : EReal)) ∧ (∀ n, IsReal fun k => (fs (ix2 n k) : EReal))
      ∧ (∀ n, IsReal fun k => (f1 (ix2 n k) : EReal)) ∧ (∀ n, IsReal fun k => (f2 (ix2 n k) : EReal))
      ∧ (∃ lab : Fin 20000 → Fin 100, ∀ n, l1 (ix1 n) = BitVec.ofNat 32 (lab n).val)
      ∧ ∃ lab : Fin 20000 → Fin 100, ∀ n, l2 (ix1 n) = BitVec.ofNat 32 (lab n).val := by
  have h := h (fun a => a.elim0)
  dsimp only [Cert.Pre_admitted.fn, Cert.Pre_admitted.fn_part1] at h
  obtain ⟨h, hl2⟩ := IntOp.andi_eq_one.1 h
  obtain ⟨h, hl1⟩ := IntOp.andi_eq_one.1 h
  obtain ⟨h, hf2⟩ := IntOp.andi_eq_one.1 h
  obtain ⟨h, hf1⟩ := IntOp.andi_eq_one.1 h
  obtain ⟨hx, hfs⟩ := IntOp.andi_eq_one.1 h
  have real : ∀ {s : Shape} {v : FVec Ideal s .f32} {hb : S_.BroadcastsInDim s ![]},
      (∀ i, cmpf .olt (Host.absf v) (broadcastInDim s ![] hb (constant (F := Ideal) S_ .f32 0x7F800000#32)) i = 1#1) →
      ∀ i, ∃ r : ℝ, (v i : EReal) = (r : EReal) := fun hv i => real_of_word (hv i)
  have rx := real fun i => Host.reduce_andi_all _ _ _ _ _ hx i
  have rfs := real fun i => Host.reduce_andi_all _ _ _ _ _ hfs i
  have rf1 := real fun i => Host.reduce_andi_all _ _ _ _ _ hf1 i
  have rf2 := real fun i => Host.reduce_andi_all _ _ _ _ _ hf2 i
  have lab : ∀ {l : IVec S20000 32} {hb hb' : S_.BroadcastsInDim S20000 ![]},
      (∀ i, andi (cmpi .sge l (broadcastInDim S20000 ![] hb (constantI S_ 32 0#32)))
        (cmpi .slt l (broadcastInDim S20000 ![] hb' (constantI S_ 32 100#32))) i = 1#1) →
      ∃ lab : Fin 20000 → Fin 100, ∀ n, l (ix1 n) = BitVec.ofNat 32 (lab n).val := fun hv =>
    Classical.skolem.1 fun n => label_of_word (IntOp.andi_eq_one.1 (hv (ix1 n))).1 (IntOp.andi_eq_one.1 (hv (ix1 n))).2
  refine ⟨fun n => Classical.skolem.1 fun k => rx _, fun n => Classical.skolem.1 fun k => rfs _, fun n => Classical.skolem.1 fun k => rf1 _,
    fun n => Classical.skolem.1 fun k => rf2 _, lab fun i => Host.reduce_andi_all _ _ _ _ _ hl1 i, lab fun i => Host.reduce_andi_all _ _ _ _ _ hl2 i⟩

end Cert.Admitted
-- ==== Proof.Equation.lean ====
module

public import proofs.«01_k».proof.Proof.KernelValue
public import proofs.«01_k».proof.Proof.KernelOut
public import proofs.«01_k».proof.Proof.RefPoint
public import proofs.«01_k».proof.Proof.RefRun
public import proofs.«01_k».proof.Proof.Admitted

/-! The kernel's result and the reference's are equal on admitted arguments. -/

@[expose] public section

set_option maxRecDepth 16384

noncomputable section

namespace Cert.Equation

open Idealize.ShloMosaic Idealize.SL.Sem
open Cert.KernelIdeal Cert.KernelIdeal.Run
open Cert.ReferenceIdeal.Stages (mean side mean_at side_at)

/-- Half of a number is its quotient by two. -/
theorem half_mul (a : EReal) : Ideal.ofBits .f32 0x3F000000#32 * a = Ideal.div a (Ideal.ofBits .f32 0x40000000#32) := by
  rw [Weights.half_eq, Weights.two_eq, Ideal.div_coe (by norm_num), mul_comm]

variable (m : (ℓ : Loc nD τ sig) → Buf (Elt Ideal) ℓ) (c : Dev nD)

/-- The mean of the reference's two sides over the kernel's arguments. -/
def meant : FVec Ideal S1024x32 .f32 :=
  mean (F := Ideal)
    (side (F := Ideal) (arg m c main_arg0) (arg m c main_arg1) (arg m c main_arg2) (arg m c main_arg3) (arg m c main_arg5) (arg m c main_arg7)
      (arg m c main_arg9) (arg m c main_arg11) (arg m c main_arg12))
    (side (F := Ideal) (arg m c main_arg0) (arg m c main_arg1) (arg m c main_arg2) (arg m c main_arg4) (arg m c main_arg6) (arg m c main_arg8)
      (arg m c main_arg10) (arg m c main_arg13) (arg m c main_arg14))

/-- The kernel's result is that mean. -/
theorem outv_eq (h : ∀ i, Cert.Pre_admitted.fn (F := Ideal) (arg m c main_arg0) (arg m c main_arg1) (arg m c main_arg2) (arg m c main_arg3)
      (arg m c main_arg4) (arg m c main_arg5) (arg m c main_arg6) (arg m c main_arg7) (arg m c main_arg8) (arg m c main_arg9) (arg m c main_arg10)
      (arg m c main_arg11) (arg m c main_arg12) (arg m c main_arg13) (arg m c main_arg14) i = 1#1) :
    outv m c = meant m c := by
  obtain ⟨hx, hfs, hf1, hf2, ⟨lab1, hl1⟩, lab2, hl2⟩ := Admitted.admitted _ _ _ _ _ _ _ _ _ _ _ _ _ _ _ h
  funext i
  obtain ⟨b, r, rfl⟩ : ∃ (b : Fin 1024) (r : Fin 32), i = ix2 b r := ⟨i 0, i 1, eq_ix2 i⟩
  unfold meant
  refine (outv_at m c b r).trans (Eq.trans ?_ (mean_at _ _ r b).symm)
  rw [half_mul]
  refine congrArg (Ideal.div · _) (congrArg₂ (· + ·) ?_ ?_)
  · exact (side1_eq m c lab1 hl1 b r).trans (side_at _ _ _ _ _ _ _ _ _ b lab1 hl1 hfs hf1 (hx b) r).symm
  · exact (side2_eq m c lab2 hl2 b r).trans (side_at _ _ _ _ _ _ _ _ _ b lab2 hl2 hfs hf2 (hx b) r).symm

end Cert.Equation
-- ==== Proof.lean ====
module

public import proofs.«01_k».proof.Defs
public import proofs.«01_k».proof.Proof.Words.Run
public import proofs.«01_k».proof.Proof.KernelRun
public import proofs.«01_k».proof.Proof.RefRun
public import proofs.«01_k».proof.Proof.Equation
public import proofs.«01_k».proof.Proof.Gen.Pre_admitted
public import Idealize.ShloMosaic.Adequacy
public import Idealize.ShloMosaic.Init

/-! The claims, assembled. -/

@[expose] public section

set_option maxRecDepth 16384

noncomputable section

namespace Cert.Proof

open Idealize.ShloMosaic Idealize.SL.Sem

/-- On admitted arguments the kernel and the reference end with equal results and their arguments unchanged. -/
theorem equal : Cert.algebraic_KernelIdeal_ReferenceIdeal_pre_admitted := by
  intro m g m' g' hpre hargs
  refine ⟨fun c => Cert.Equation.meant m c, ?_, ?_⟩
  · refine (θ_run _ _ _).mono (fun r h c => ⟨(h.1 c).trans ?_, h.2.1 c⟩)
      (θ_run_and (Cert.KernelIdeal.Run.run_out m g) (Cert.KernelIdeal.Run.quiet m g))
    exact Cert.Equation.outv_eq m c fun i => congrFun (hpre c) i
  · refine (θ_run _ _ _).mono (fun r h c => ⟨((h.1 c).1).trans ?_, h.2.1 c⟩)
      (θ_run_and (Cert.ReferenceIdeal.Stages.run m' g') (Cert.ReferenceIdeal.Stages.quiet m' g'))
    obtain ⟨h0, h1, h2, h3, h4, h5, h6, h7, h8, h9, h10, h11, h12, h13, h14⟩ := hargs c
    unfold Cert.ReferenceIdeal.Stages.result Cert.Equation.meant
    refine congrArg₂ Cert.ReferenceIdeal.Stages.mean ?_ ?_
    · exact congr (congr (congr (congr (congr (congr (congr (congr (congrArg Cert.ReferenceIdeal.Stages.side h0) h1) h2) h3) h5) h7) h9) h11) h12
    · exact congr (congr (congr (congr (congr (congr (congr (congr (congrArg Cert.ReferenceIdeal.Stages.side h0) h1) h2) h4) h6) h8) h10) h13) h14

theorem claim : Cert.Claim :=
  ⟨Cert.Kernel.Gen.facts, Cert.KernelIdeal.Gen.facts, Cert.ReferenceIdeal.Gen.facts, Cert.Pre_admitted.Gen.facts,
    fun m ρ _ => Cert.Kernel.Run.quiet m ρ,
    fun m ρ _ => Cert.KernelIdeal.Run.quiet m ρ,
    fun m ρ _ => Cert.KernelIdeal.Run.quiet m ρ,
    fun m ρ _ => Cert.ReferenceIdeal.Stages.quiet m ρ,
    fun m ρ _ => Cert.ReferenceIdeal.Stages.quiet m ρ,
    trivial, equal⟩

end Cert.Proof

end
